-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_padded [hPre_padded : Cert.Pre_padded.Facts] (m : (ℓ : Loc Cert.KernelIdeal.nD Cert.KernelIdeal.τ Cert.KernelIdeal.sig) → Buf (Elt Ideal) ℓ) : Prop :=
  ∀ c : Dev Cert.KernelIdeal.nD,
    (Cert.Pre_padded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_padded [hPre_padded : Cert.Pre_padded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_padded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_padded [hKernelIdeal : Cert.KernelIdeal.Facts] [hPre_padded : Cert.Pre_padded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_padded m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_padded [hReferenceIdeal : Cert.ReferenceIdeal.Facts] [hPre_padded : Cert.Pre_padded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_padded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_padded [hKernelIdeal : Cert.KernelIdeal.Facts] [hReferenceIdeal : Cert.ReferenceIdeal.Facts] [hPre_padded : Cert.Pre_padded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_padded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts) (hPre_padded : Cert.Pre_padded.Facts),
    quiescent_Kernel (hKernel := hKernel) (hPre_in_range := hPre_in_range)
    ∧ quiescent_KernelIdeal (hKernelIdeal := hKernelIdeal) (hPre_in_range := hPre_in_range)
    ∧ quiescent_KernelIdeal_pre_padded (hKernelIdeal := hKernelIdeal) (hPre_padded := hPre_padded)
    ∧ quiescent_ReferenceIdeal (hReferenceIdeal := hReferenceIdeal)
    ∧ quiescent_ReferenceIdeal_pre_padded (hReferenceIdeal := hReferenceIdeal) (hPre_padded := hPre_padded)
    ∧ preserves_Kernel_KernelIdeal
    ∧ algebraic_KernelIdeal_ReferenceIdeal_pre_padded (hKernelIdeal := hKernelIdeal) (hReferenceIdeal := hReferenceIdeal) (hPre_padded := hPre_padded)
-- ==== Pre_in_range.lean ====
abbrev S16384 : Shape := ⟨1, ![16384]⟩
abbrev S100000x64 : Shape := ⟨2, ![100000, 64]⟩
abbrev S128x64 : Shape := ⟨2, ![128, 64]⟩
abbrev S128 : Shape := ⟨1, ![128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S16384 .f32) (main_arg2 : FVec F S100000x64 .f32) (main_arg3 : FVec F S128x64 .f32) (main_arg4 : FVec F S128 .f32) (main_arg5 : FVec F S100000x64 .f32) (main_arg6 : FVec F S128x64 .f32) (main_arg7 : FVec F S128 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Pre_padded.lean ====
abbrev S16384 : Shape := ⟨1, ![16384]⟩
abbrev S100000x64 : Shape := ⟨2, ![100000, 64]⟩
abbrev S128x64 : Shape := ⟨2, ![128, 64]⟩
abbrev S128 : Shape := ⟨1, ![128]⟩
abbrev S_ : Shape := ⟨0, ![]⟩
abbrev S1x64 : Shape := ⟨2, ![1, 64]⟩
abbrev S64 : Shape := ⟨1, ![64]⟩

class Facts : Prop where
  bcast_S_S16384 : S_.BroadcastsInDim S16384 (![] : Fin 0 → Fin S16384.rank)
  reducesTo_S16384_S_d0 : S16384.ReducesTo [0] S_
  h_S_ : 0 < S_.numel
  slices_S100000x64_S1x64_0_0 : S100000x64.Slices ![0, 0] S1x64
  shapeCasts_S1x64_S64 : S1x64.ShapeCasts S64
  bcast_S_S64 : S_.BroadcastsInDim S64 (![] : Fin 0 → Fin S64.rank)
  reducesTo_S64_S_d0 : S64.ReducesTo [0] S_

variable [Facts]

def fn_part1 {F : FTy → Type} [FloatOps F] (main_v11 : IVec S_ 1) (main_v16 : IVec S_ 1) : IVec S_ 1 :=
  let main_v17 : IVec S_ 1 := andi main_v11 main_v16
  main_v17

def fn {F : FTy → Type} [FloatOps F] (main_arg0 : IVec S16384 32) (main_arg1 : FVec F S16384 .f32) (main_arg2 : FVec F S100000x64 .f32) (main_arg3 : FVec F S128x64 .f32) (main_arg4 : FVec F S128 .f32) (main_arg5 : FVec F S100000x64 .f32) (main_arg6 : FVec F S128x64 .f32) (main_arg7 : FVec F S128 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_v6 : FVec F S1x64 .f32 := (extractStridedSlice S1x64 ![0, 0] · slices_S100000x64_S1x64_0_0) main_arg2
  let main_v7 : FVec F S64 .f32 := shapeCast S64 main_v6 shapeCasts_S1x64_S64
  let main_cst : FVec F S_ .f32 := constant S_ .f32 0x00000000#32
  let main_v8 : FVec F S64 .f32 := broadcastInDim S64 ![] bcast_S_S64 main_cst
  let main_v9 : IVec S64 1 := cmpf .oeq main_v7 main_v8
  let main_c_2 : IVec S_ 1 := constantI S_ 1 1#1
  let main_v10 : IVec S_ 1 := (fun x v => Host.reduce IntOp.andi x v reducesTo_S64_S_d0 h_S_) main_v9 main_c_2
  let main_v11 : IVec S_ 1 := andi main_v5 main_v10
  let main_v12 : FVec F S1x64 .f32 := (extractStridedSlice S1x64 ![0, 0] · slices_S100000x64_S1x64_0_0) main_arg5
  let main_v13 : FVec F S64 .f32 := shapeCast S64 main_v12 shapeCasts_S1x64_S64
  let main_cst_3 : FVec F S_ .f32 := constant S_ .f32 0x00000000#32
  let main_v14 : FVec F S64 .f32 := broadcastInDim S64 ![] bcast_S_S64 main_cst_3
  let main_v15 : IVec S64 1 := cmpf .oeq main_v13 main_v14
  let main_c_4 : IVec S_ 1 := constantI S_ 1 1#1
  let main_v16 : IVec S_ 1 := (fun x v => Host.reduce IntOp.andi x v reducesTo_S64_S_d0 h_S_) main_v15 main_c_4
  fn_part1 (F := F) main_v11 main_v16
-- ==== Kernel.lean ====
abbrev S16384 : Shape := ⟨1, ![16384]⟩
abbrev S100000x64 : Shape := ⟨2, ![100000, 64]⟩
abbrev S128x64 : Shape := ⟨2, ![128, 64]⟩
abbrev S128 : Shape := ⟨1, ![128]⟩
abbrev S1x16384 : Shape := ⟨2, ![1, 16384]⟩
abbrev S64x100000 : Shape := ⟨2, ![64, 100000]⟩
abbrev S100000x128 : Shape := ⟨2, ![100000, 128]⟩
abbrev S64x2048 : Shape := ⟨2, ![64, 2048]⟩
abbrev S2048x128 : Shape := ⟨2, ![2048, 128]⟩
abbrev S2048x64 : Shape := ⟨2, ![2048, 64]⟩
abbrev S16384x128 : Shape := ⟨2, ![16384, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S64x128 : Shape := ⟨2, ![64, 128]⟩
abbrev S16384x1 : Shape := ⟨2, ![16384, 1]⟩
abbrev S2048x1 : Shape := ⟨2, ![2048, 1]⟩

abbrev nBuf : Table → Nat
  | .hbm => 20
  | .local .tc .vmem => 15
  | .local .scVector .vmem => 2
  | _ => 0

abbrev bufTy : (tb : Table) → Fin (nBuf tb) → BufTy
  | .hbm, ⟨0, _⟩ => ⟨S16384, .i32⟩
  | .hbm, ⟨1, _⟩ => ⟨S16384, .f32⟩
  | .hbm, ⟨2, _⟩ => ⟨S100000x64, .f32⟩
  | .hbm, ⟨3, _⟩ => ⟨S128x64, .f32⟩
  | .hbm, ⟨4, _⟩ => ⟨S128, .f32⟩
  | .hbm, ⟨5, _⟩ => ⟨S100000x64, .f32⟩
  | .hbm, ⟨6, _⟩ => ⟨S128x64, .f32⟩
  | .hbm, ⟨7, _⟩ => ⟨S128, .f32⟩
  | .hbm, ⟨8, _⟩ => ⟨S1x16384, .i32⟩
  | .hbm, ⟨9, _⟩ => ⟨S64x100000, .f32⟩
  | .hbm, ⟨10, _⟩ => ⟨S64x100000, .f32⟩
  | .hbm, ⟨11, _⟩ => ⟨S100000x128, .f32⟩
  | .hbm, ⟨12, _⟩ => ⟨S16384x128, .f32⟩
  | .hbm, ⟨13, _⟩ => ⟨S64x128, .f32⟩
  | .hbm, ⟨14, _⟩ => ⟨S64x128, .f32⟩
  | .hbm, ⟨15, _⟩ => ⟨S128x128, .f32⟩
  | .hbm, ⟨16, _⟩ => ⟨S16384x1, .f32⟩
  | .hbm, ⟨17, _⟩ => ⟨S1x128, .f32⟩
  | .hbm, ⟨18, _⟩ => ⟨S1x128, .f32⟩
  | .hbm, ⟨19, _⟩ => ⟨S16384x128, .f32⟩
  | .local .tc .vmem, ⟨0, _⟩ => ⟨S64x2048, .f32⟩
  | .local .tc .vmem, ⟨1, _⟩ => ⟨S64x2048, .f32⟩
  | .local .tc .vmem, ⟨2, _⟩ => ⟨S64x2048, .f32⟩
  | .local .tc .vmem, ⟨3, _⟩ => ⟨S64x2048, .f32⟩
  | .local .tc .vmem, ⟨4, _⟩ => ⟨S2048x128, .f32⟩
  | .local .tc .vmem, ⟨5, _⟩ => ⟨S2048x128, .f32⟩
  | .local .tc .vmem, ⟨6, _⟩ => ⟨S2048x128, .f32⟩
  | .local .tc .vmem, ⟨7, _⟩ => ⟨S2048x128, .f32⟩
  | .local .tc .vmem, ⟨8, _⟩ => ⟨S2048x1, .f32⟩
  | .local .tc .vmem, ⟨9, _⟩ => ⟨S2048x1, .f32⟩
  | .local .tc .vmem, ⟨10, _⟩ => ⟨S128x128, .f32⟩
  | .local .tc .vmem, ⟨11, _⟩ => ⟨S1x128, .f32⟩
  | .local .tc .vmem, ⟨12, _⟩ => ⟨S1x128, .f32⟩
  | .local .tc .vmem, ⟨13, _⟩ => ⟨S2048x128, .f32⟩
  | .local .tc .vmem, ⟨14, _⟩ => ⟨S2048x128, .f32⟩
  | .local .scVector .vmem, ⟨0, _⟩ => ⟨S2x1x128, .i32⟩
  | .local .scVector .vmem, ⟨1, _⟩ => ⟨S2x128x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v3_scv : Ref sig .scVector := ⟨.hbm, 11, rfl⟩
abbrev main_v0_scv : Ref sig .scVector := ⟨.hbm, 8, rfl⟩
abbrev main_v4_scv : Ref sig .scVector := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg5_1 : Ref sig .tc := ⟨.vmem, 14, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v7_r0 : BitVec 32 := Scalar.addi c0_i32_1_r0 v4
  let v22_r0 : BitVec 32 := Scalar.muli c128_i32_r0 v7_r0
  ![0, v22_r0.toNat]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_26_r0 : BitVec 32 := 0#32
  let c4_i32_27_r0 : BitVec 32 := 4#32
  let v32_r0 : BitVec 32 := Scalar.addi c0_i32_26_r0 c4_i32_27_r0
  let c1_i32_28_r0 : BitVec 32 := 1#32
  ⟨c0_i32_26_r0, v32_r0, c1_i32_28_r0⟩
def k1_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c3_i32_68_r0 : BitVec 32 := 3#32
  let v83_r0 : BitVec 1 := Scalar.cmpi .sge arg5_r0 c3_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k1_off5 (i : grid1.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v76_r0 : BitVec 32 := Scalar.addi v75_r0 v4
  let v145_r0 : BitVec 32 := Scalar.muli c128_i32_100_r0 v76_r0
  ![0, v145_r0.toNat]
def k1_off6 (arg6_r0 : BitVec 32) : Fin 1 → Nat :=
  let c2_i32_99_r0 : BitVec 32 := 2#32
  let v144_r0 : BitVec 32 := Scalar.remui arg6_r0 c2_i32_99_r0
  ![v144_r0.toNat]
def k1_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k1_off8 (i : grid1.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let v144_r0 : BitVec 32 := Scalar.muli c128_i32_99_r0 v66_r0
  ![0, v144_r0.toNat]
def k1_off9 (arg7_r0 : BitVec 32) : Fin 1 → Nat :=
  let c2_i32_100_r0 : BitVec 32 := 2#32
  let v145_r0 : BitVec 32 := Scalar.remui arg7_r0 c2_i32_100_r0
  ![v145_r0.toNat]
def k1_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c3_i32_55_r0 : BitVec 32 := 3#32
  let v65_r0 : BitVec 1 := Scalar.cmpi .eq arg5_r0 c3_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k1_off13 (i : grid1.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k1_off14 (arg8_r0 : BitVec 32) : Fin 1 → Nat :=
  let c2_i32_99_r0 : BitVec 32 := 2#32
  let v144_r0 : BitVec 32 := Scalar.remui arg8_r0 c2_i32_99_r0
  ![v144_r0.toNat]
def k1_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k1_off16 (i : grid1.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v71_r0 : BitVec 32 := Scalar.addi v70_r0 v4
  let v145_r0 : BitVec 32 := Scalar.muli c128_i32_100_r0 v71_r0
  let c0_i32_103_r0 : BitVec 32 := 0#32
  ![v145_r0.toNat, 0]
def k1_off17 (arg9_r0 : BitVec 32) : Fin 1 → Nat :=
  let c2_i32_99_r0 : BitVec 32 := 2#32
  let v144_r0 : BitVec 32 := Scalar.remui arg9_r0 c2_i32_99_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x16384.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x16384.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S16384x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S16384x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x16384.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x16384.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S16384x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S16384x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k1_off19 (i : grid1.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c3_i32_33_r0 : BitVec 32 := 3#32
  let v37_r0 : BitVec 32 := Scalar.select v36_r0 c3_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v38_r0 : BitVec 32 := Scalar.addi v37_r0 v4
  let v55_r0 : BitVec 32 := Scalar.muli c128_i32_47_r0 v38_r0
  let c0_i32_50_r0 : BitVec 32 := 0#32
  ![v55_r0.toNat, 0]

def k1_chk5 (i : grid1.Coords) (v33_4_r0 : BitVec 32) : Prop :=
  (∀ a, (k1_off19 i v33_4_r0) a + S128x128.size a ≤ S16384x128.size a)
theorem k1_off19_inb : ∀ (i : grid1.Coords) (v33_4_r0 : BitVec 32) (k1_hw5 : k1_chk5 i v33_4_r0), ∀ a, (k1_off19 i v33_4_r0) a + S128x128.size a ≤ S16384x128.size a := fun i v33_4_r0 k1_hw5 => k1_hw5

def k1_off20 (v33_3_r0 : BitVec 32) : Fin 1 → Nat :=
  let c2_i32_46_r0 : BitVec 32 := 2#32
  let v54_r0 : BitVec 32 := Scalar.remui v33_3_r0 c2_i32_46_r0
  ![v54_r0.toNat]
def k1_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k1_chk4 (v33_3_r0 : BitVec 32) : Prop :=
  (∀ a, (k1_off18 v33_3_r0) a + S1x128x128.size a ≤ S2x128x128.size a) ∧
  (∀ a, (k1_off20 v33_3_r0) a + S1.size a ≤ S2.size a) ∧
  (∀ a, (k1_off21 v33_3_r0) a + S1x128x128.size a ≤ S2x128x128.size a)
theorem k1_off18_inb : ∀ (v33_3_r0 : BitVec 32) (k1_hw4 : k1_chk4 v33_3_r0), ∀ a, (k1_off18 v33_3_r0) a + S1x128x128.size a ≤ S2x128x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x128x128.size a ≤ S2x128x128.size a := fun v33_3_r0 k1_hw4 => k1_hw4.2.2

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2048x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S100000x64 : Shape := ⟨2, ![100000, 64]⟩
abbrev S128x64 : Shape := ⟨2, ![128, 64]⟩
abbrev S128 : Shape := ⟨1, ![128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩
abbrev S64x128 : Shape := ⟨2, ![64, 128]⟩
abbrev S16384x128 : Shape := ⟨2, ![16384, 128]⟩
abbrev S1x128 : Shape := ⟨2, ![1, 128]⟩

abbrev nBuf : Space → Nat
  | .hbm => 101
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .f32⟩
  | .hbm, ⟨2, _⟩ => ⟨S100000x64, .f32⟩
  | .hbm, ⟨3, _⟩ => ⟨S128x64, .f32⟩
  | .hbm, ⟨4, _⟩ => ⟨S128, .f32⟩
  | .hbm, ⟨5, _⟩ => ⟨S100000x64, .f32⟩
  | .hbm, ⟨6, _⟩ => ⟨S128x64, .f32⟩
  | .hbm, ⟨7, _⟩ => ⟨S128, .f32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S1, .i32⟩
  | .hbm, ⟨17, _⟩ => ⟨S_, .i32⟩
  | .hbm, ⟨18, _⟩ => ⟨S16384x1, .i32⟩
  | .hbm, ⟨19, _⟩ => ⟨S16384x1, .i1⟩
  | .hbm, ⟨20, _⟩ => ⟨S1x1, .i32⟩
  | .hbm, ⟨21, _⟩ => ⟨S16384x1, .i32⟩
  | .hbm, ⟨22, _⟩ => ⟨S16384x1, .i1⟩
  | .hbm, ⟨23, _⟩ => ⟨S16384x1, .i1⟩
  | .hbm, ⟨24, _⟩ => ⟨S_, .i1⟩
  | .hbm, ⟨25, _⟩ => ⟨S16384, .i1⟩
  | .hbm, ⟨26, _⟩ => ⟨S16384x64, .f32⟩
  | .hbm, ⟨27, _⟩ => ⟨S16384x64, .i1⟩
  | .hbm, ⟨28, _⟩ => ⟨S_, .f32⟩
  | .hbm, ⟨29, _⟩ => ⟨S16384x64, .f32⟩
  | .hbm, ⟨30, _⟩ => ⟨S16384x64, .f32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S16384x1, .i1⟩
  | .hbm, ⟨35, _⟩ => ⟨S_, .f32⟩
  | .hbm, ⟨36, _⟩ => ⟨S_, .f32⟩
  | .hbm, ⟨37, _⟩ => ⟨S16384x64, .i1⟩
  | .hbm, ⟨38, _⟩ => ⟨S16384x64, .f32⟩
  | .hbm, ⟨39, _⟩ => ⟨S16384x64, .f32⟩
  | .hbm, ⟨40, _⟩ => ⟨S64x128, .f32⟩
  | .hbm, ⟨41, _⟩ => ⟨S16384x128, .f32⟩
  | .hbm, ⟨42, _⟩ => ⟨S1x128, .f32⟩
  | .hbm, ⟨43, _⟩ => ⟨S16384x128, .f32⟩
  | .hbm, ⟨44, _⟩ => ⟨S16384x128, .f32⟩
  | .hbm, ⟨45, _⟩ => ⟨S16384, .i1⟩
  | .hbm, ⟨46, _⟩ => ⟨S_, .f32⟩
  | .hbm, ⟨47, _⟩ => ⟨S_, .f32⟩
  | .hbm, ⟨48, _⟩ => ⟨S16384, .f32⟩
  | .hbm, ⟨49, _⟩ => ⟨S16384, .f32⟩
  | .hbm, ⟨50, _⟩ => ⟨S_, .i32⟩
  | .hbm, ⟨51, _⟩ => ⟨S_, .i32⟩
  | .hbm, ⟨52, _⟩ => ⟨S16384, .i32⟩
  | .hbm, ⟨53, _⟩ => ⟨S16384, .i32⟩
  | .hbm, ⟨54, _⟩ => ⟨S_, .i32⟩
  | .hbm, ⟨55, _⟩ => ⟨S16384, .i32⟩
  | .hbm, ⟨56, _⟩ => ⟨S16384, .i1⟩
  | .hbm, ⟨57, _⟩ => ⟨S_, .i32⟩
  | .hbm, ⟨58, _⟩ => ⟨S16384, .i32⟩
  | .hbm, ⟨59, _⟩ => ⟨S16384, .i32⟩
  | .hbm, ⟨60, _⟩ => ⟨S16384, .i32⟩
  | .hbm, ⟨61, _⟩ => ⟨S16384x1, .i32⟩
  | .hbm, ⟨62, _⟩ => ⟨S1, .i32⟩
  | .hbm, ⟨63, _⟩ => ⟨S_, .i32⟩
  | .hbm, ⟨64, _⟩ => ⟨S16384x1, .i32⟩
  | .hbm, ⟨65, _⟩ => ⟨S16384x1, .i1⟩
  | .hbm, ⟨66, _⟩ => ⟨S1x1, .i32⟩
  | .hbm, ⟨67, _⟩ => ⟨S16384x1, .i32⟩
  | .hbm, ⟨68, _⟩ => ⟨S16384x1, .i1⟩
  | .hbm, ⟨69, _⟩ => ⟨S16384x1, .i1⟩
  | .hbm, ⟨70, _⟩ => ⟨S_, .i1⟩
  | .hbm, ⟨71, _⟩ => ⟨S16384, .i1⟩
  | .hbm, ⟨72, _⟩ => ⟨S16384x64, .f32⟩
  | .hbm, ⟨73, _⟩ => ⟨S16384x64, .i1⟩
  | .hbm, ⟨74, _⟩ => ⟨S_, .f32⟩
  | .hbm, ⟨75, _⟩ => ⟨S16384x64, .f32⟩
  | .hbm, ⟨76, _⟩ => ⟨S16384x64, .f32⟩
  | .hbm, ⟨77, _⟩ => ⟨S_, .i32⟩
  | .hbm, ⟨78, _⟩ => ⟨S16384, .i32⟩
  | .hbm, ⟨79, _⟩ => ⟨S16384, .i1⟩
  | .hbm, ⟨80, _⟩ => ⟨S16384x1, .i1⟩
  | .hbm, ⟨81, _⟩ => ⟨S_, .f32⟩
  | .hbm, ⟨82, _⟩ => ⟨S_, .f32⟩
  | .hbm, ⟨83, _⟩ => ⟨S16384x64, .i1⟩
  | .hbm, ⟨84, _⟩ => ⟨S16384x64, .f32⟩
  | .hbm, ⟨85, _⟩ => ⟨S16384x64, .f32⟩
  | .hbm, ⟨86, _⟩ => ⟨S16384x1, .f32⟩
  | .hbm, ⟨87, _⟩ => ⟨S16384x64, .f32⟩
  | .hbm, ⟨88, _⟩ => ⟨S16384x64, .f32⟩
  | .hbm, ⟨89, _⟩ => ⟨S64x128, .f32⟩
  | .hbm, ⟨90, _⟩ => ⟨S16384x128, .f32⟩
  | .hbm, ⟨91, _⟩ => ⟨S1x128, .f32⟩
  | .hbm, ⟨92, _⟩ => ⟨S16384x128, .f32⟩
  | .hbm, ⟨93, _⟩ => ⟨S16384x128, .f32⟩
  | .hbm, ⟨94, _⟩ => ⟨S_, .f32⟩
  | .hbm, ⟨95, _⟩ => ⟨S16384x128, .f32⟩
  | .hbm, ⟨96, _⟩ => ⟨S16384x128, .f32⟩
  | .hbm, ⟨97, _⟩ => ⟨S_, .f32⟩
  | .hbm, ⟨98, _⟩ => ⟨S16384x128, .f32⟩
  | .hbm, ⟨99, _⟩ => ⟨S16384x128, .f32⟩
  | .hbm, ⟨100, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_c : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_cst_0 : Ref sig .tc := ⟨.hbm, 46, rfl⟩
abbrev main_call2_v0 : Ref sig .tc := ⟨.hbm, 47, rfl⟩
abbrev main_call2_v1 : Ref sig .tc := ⟨.hbm, 48, rfl⟩
abbrev main_v11 : Ref sig .tc := ⟨.hbm, 49, rfl⟩
abbrev main_c_1 : Ref sig .tc := ⟨.hbm, 50, rfl⟩
abbrev main_call3_v0 : Ref sig .tc := ⟨.hbm, 51, rfl⟩
abbrev main_call3_v1 : Ref sig .tc := ⟨.hbm, 52, rfl⟩
abbrev main_v12 : Ref sig .tc := ⟨.hbm, 53, rfl⟩
abbrev main_call4_c : Ref sig .tc := ⟨.hbm, 54, rfl⟩
abbrev main_call4_v0 : Ref sig .tc := ⟨.hbm, 55, rfl⟩
abbrev main_call4_v1 : Ref sig .tc := ⟨.hbm, 56, rfl⟩
abbrev main_call4_c_0 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_call4_v5 : Ref sig .tc := ⟨.hbm, 61, rfl⟩
abbrev main_call4_c_1 : Ref sig .tc := ⟨.hbm, 62, rfl⟩
abbrev main_call4_c_2 : Ref sig .tc := ⟨.hbm, 63, rfl⟩
abbrev main_call4_v6 : Ref sig .tc := ⟨.hbm, 64, rfl⟩
abbrev main_call4_v7 : Ref sig .tc := ⟨.hbm, 65, rfl⟩
abbrev main_call4_v8 : Ref sig .tc := ⟨.hbm, 66, rfl⟩
abbrev main_call4_v9 : Ref sig .tc := ⟨.hbm, 67, rfl⟩
abbrev main_call4_v10 : Ref sig .tc := ⟨.hbm, 68, rfl⟩
abbrev main_call4_v11 : Ref sig .tc := ⟨.hbm, 69, rfl⟩
abbrev main_call4_c_3 : Ref sig .tc := ⟨.hbm, 70, rfl⟩
abbrev main_call4_v12 : Ref sig .tc := ⟨.hbm, 71, rfl⟩
abbrev main_call4_v13 : Ref sig .tc := ⟨.hbm, 72, rfl⟩
abbrev main_call4_v14 : Ref sig .tc := ⟨.hbm, 73, rfl⟩
abbrev main_call4_cst : Ref sig .tc := ⟨.hbm, 74, rfl⟩
abbrev main_call4_v15 : Ref sig .tc := ⟨.hbm, 75, rfl⟩
abbrev main_v13 : Ref sig .tc := ⟨.hbm, 76, rfl⟩
abbrev main_c_2 : Ref sig .tc := ⟨.hbm, 77, rfl⟩
abbrev main_v14 : Ref sig .tc := ⟨.hbm, 78, rfl⟩
abbrev main_v15 : Ref sig .tc := ⟨.hbm, 79, rfl⟩
abbrev main_v16 : Ref sig .tc := ⟨.hbm, 80, rfl⟩
abbrev main_cst_3 : Ref sig .tc := ⟨.hbm, 81, rfl⟩
abbrev main_call5_v0 : Ref sig .tc := ⟨.hbm, 82, rfl⟩
abbrev main_call5_v1 : Ref sig .tc := ⟨.hbm, 83, rfl⟩
abbrev main_call5_v2 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_cst_4 : Ref sig .tc := ⟨.hbm, 94, rfl⟩
abbrev main_v26 : Ref sig .tc := ⟨.hbm, 95, rfl⟩
abbrev main_v27 : Ref sig .tc := ⟨.hbm, 96, rfl⟩
abbrev main_cst_5 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩

abbrev nD : Nat := 1
abbrev τ : Topo := Topo.v7x

variable {F : FTy → Type} [FloatOps F]
-- ==== Proof.Same.lean ====
module

public import proofs.«01_k».proof.Defs
public import proofs.«01_k».proof.Proof.Gen.Kernel
public import proofs.«01_k».proof.Proof.Gen.KernelIdeal
public import Idealize.ShloMosaic.Init

/-! The kernel at words and the kernel at extended reals are one program: their
definitions agree at words, processor by processor. -/

@[expose] public section

noncomputable section
namespace Cert.Proof.Same
open Idealize.ShloMosaic

set_option maxHeartbeats 2000000 in
/-- The bodies on the dense core agree. -/
theorem tc (l a) : Cert.Kernel.defs₀ (F := Bits) .tc l a =
    Cert.KernelIdeal.defs₀ (F := Bits) .tc l a := by
  match l, a with
  | 0, (t, s) => rfl
  | 1, _ => rfl
  | 2, (t, s) => rfl

/-- A tile has no body for the first dense launch in either. -/
theorem tile_first (c s a) : Cert.Kernel.defs₀ (F := Bits) (.scVector c s) 0 a =
    Cert.KernelIdeal.defs₀ (F := Bits) (.scVector c s) 0 a := by
  obtain ⟨t, b⟩ := a
  rfl

/-- The tile's own bodies agree. -/
theorem tile_own (c s a) : Cert.Kernel.defs₀ (F := Bits) (.scVector c s) 1 a =
    Cert.KernelIdeal.defs₀ (F := Bits) (.scVector c s) 1 a := rfl

/-- A tile has no body for the last dense launch in either. -/
theorem tile_last (c s a) : Cert.Kernel.defs₀ (F := Bits) (.scVector c s) 2 a =
    Cert.KernelIdeal.defs₀ (F := Bits) (.scVector c s) 2 a := by
  obtain ⟨t, b⟩ := a
  rfl

/-- The scalar cores have no body in either. -/
theorem scalar (c l a) : Cert.Kernel.defs₀ (F := Bits) (.scScalar c) l a =
    Cert.KernelIdeal.defs₀ (F := Bits) (.scScalar c) l a := by
  unfold Cert.Kernel.defs₀ Cert.KernelIdeal.defs₀
  rfl

/-- The bodies agree on every processor. -/
theorem defs₀_eq : Cert.Kernel.defs₀ (F := Bits) = Cert.KernelIdeal.defs₀ (F := Bits) := by
  funext p l a
  match p, l, a with
  | .tc, l, a => exact tc l a
  | .scVector c s, 0, a => exact tile_first c s a
  | .scVector c s, 1, a => exact tile_own c s a
  | .scVector c s, 2, a => exact tile_last c s a
  | .scScalar c, l, a => exact scalar c l a

/-- With the launches put in, the programs agree. -/
theorem defs_eq : Cert.Kernel.defs (F := Bits) = Cert.KernelIdeal.defs (F := Bits) :=
  congrArg (fun D => Cert.KernelIdeal.sc.defs (Pipeline.defs Cert.KernelIdeal.pcfgs D)) defs₀_eq

end Cert.Proof.Same
end
-- ==== Proof.Words.lean ====
/-
  The words the gather's loop carries, and what its body computes of them. `emit_pipeline` prints as one counted loop of
  four trips over five carried words: the slot the next fetch goes to, the slot being read, the slot being written, the
  slot whose write-back is waited for, and the block. At trip `n` they are `car n`; every offset, condition and check of
  the body is a closed form of `n` and of the tile's place in the mesh.
-/
module

public import proofs.«01_k».proof.Defs
public import proofs.«01_k».proof.Proof.Gen.KernelIdeal
public import proofs.«01_k».proof.Proof.Gen.KernelIdeal.Skeleton

@[expose] public section

namespace Cert.Proof.Words

open Cert.KernelIdeal Cert.KernelIdeal.Gen Idealize.ShloMosaic

/-- The number of trips. -/
theorem trips_eq : k1_t1_loop.trips = 4 := by decide +kernel

/-- The carried words at trip `n` (at `n = 4`, after the last one). -/
def w6 (n : ℕ) : BitVec 32 := BitVec.ofNat 32 (min (n + 1) 4)
/-- The slot being read, which is also the one being written, at trip `n`. -/
def w7 (n : ℕ) : BitVec 32 := BitVec.ofNat 32 n
/-- The slot whose copy back is waited for at trip `n`. -/
def w9 (n : ℕ) : BitVec 32 := BitVec.ofNat 32 (n - 1)
/-- The block of trip `n`, back at the first one after the loop. -/
def w10 (n : ℕ) : BitVec 32 := BitVec.ofNat 32 (if n = 4 then 0 else n)
/-- All five carried words at trip `n`. -/
def car (n : ℕ) : BitVec 32 × BitVec 32 × BitVec 32 × BitVec 32 × BitVec 32 := (w6 n, w7 n, w7 n, w9 n, w10 n)

/-- The first row of a tile's part of the index list. -/
def base (i : grid1.Coords) : ℕ := 512 * (i 1).val + 8192 * (i 0).val

/-- Every tile's part of the index list lies inside it. -/
theorem base_le (i : grid1.Coords) : base i + 512 ≤ 16384 := by
  have h0 : (i 0).val < 2 := (i 0).isLt
  have h1 : (i 1).val < 16 := (i 1).isLt
  unfold base; omega

variable (i : grid1.Coords) (k : Fin k1_t1_loop.trips)

/-- The first window fetched is the part's first. -/
theorem off2_eq : k1_off2 i = ![0, base i + 128 * 0] := k1_off2_eq i

/-- The next window is fetched in every trip but the last. -/
theorem cond1_iff : k1_cond1 i k (w10 k.val) = 1#1 ↔ k.val < 3 := by revert i k; decide +kernel
/-- Each trip waits for its window. -/
theorem cond2_true : k1_cond2 i k (w10 k.val) = 1#1 := by revert i k; decide +kernel
/-- Each trip sends its block back. -/
theorem cond5_true : k1_cond5 i k (w10 k.val) = 1#1 := by revert i k; decide +kernel
/-- The block before is waited for in every trip but the first. -/
theorem cond7_iff : k1_cond7 i k (w10 k.val) = 1#1 ↔ 0 < k.val := by revert i k; decide +kernel

/-- The slot of the window fetched ahead. -/
theorem off4_eq : k.val < 3 → k1_off4 (w6 k.val) = ![(k.val + 1) % 2, 0, 0] := by revert k; decide +kernel
/-- The place of the window fetched ahead. -/
theorem off5_eq : k.val < 3 → k1_off5 i (w10 k.val) = ![0, base i + 128 * (k.val + 1)] := by revert i k; decide +kernel
/-- The counter of the fetch ahead. -/
theorem off6_eq : k.val < 3 → k1_off6 (w6 k.val) = ![(k.val + 1) % 2] := by revert k; decide +kernel
/-- The slot of the window waited for. -/
theorem off7_eq : k1_off7 (w7 k.val) = ![k.val % 2, 0, 0] := by revert k; decide +kernel
/-- The place of the window waited for. -/
theorem off8_eq : k1_off8 i (w10 k.val) = ![0, base i + 128 * k.val] := by revert i k; decide +kernel
/-- The counter of the window waited for. -/
theorem off9_eq : k1_off9 (w7 k.val) = ![k.val % 2] := by revert k; decide +kernel
/-- The slot that the gather fills. -/
theorem off10_eq : k1_off10 (w7 k.val) = ![k.val % 2, 0, 0] := by revert k; decide +kernel
/-- The slot of the list that the gather reads. -/
theorem off11_eq : k1_off11 (w7 k.val) = ![k.val % 2, 0, 0] := by revert k; decide +kernel
/-- The slot that is sent back. -/
theorem off12_eq : k1_off12 (w7 k.val) = ![k.val % 2, 0, 0] := by revert k; decide +kernel
/-- The place where the trip's block goes. -/
theorem off13_eq : k1_off13 i (w10 k.val) = ![base i + 128 * k.val, 0] := by revert i k; decide +kernel
/-- The counter of the copy back. -/
theorem off14_eq : k1_off14 (w7 k.val) = ![k.val % 2] := by revert k; decide +kernel
/-- The slot of the block before. -/
theorem off15_eq : 0 < k.val → k1_off15 (w9 k.val) = ![(k.val - 1) % 2, 0, 0] := by revert k; decide +kernel
/-- The place of the block before. -/
theorem off16_eq : 0 < k.val → k1_off16 i (w10 k.val) = ![base i + 128 * (k.val - 1), 0] := by revert i k; decide +kernel
/-- The counter of the block before. -/
theorem off17_eq : 0 < k.val → k1_off17 (w9 k.val) = ![(k.val - 1) % 2] := by revert k; decide +kernel
/-- The place of the last block, waited for after the loop. -/
theorem off19_eq : k1_off19 i (w10 4) = ![base i + 128 * 3, 0] := by revert i; decide +kernel
/-- The counter of the last block. -/
theorem off20_eq : k1_off20 (w9 4) = ![3 % 2] := by decide +kernel
/-- The slot of the last block. -/
theorem off21_eq : k1_off21 (w9 4) = ![3 % 2, 0, 0] := by decide +kernel

/-- The body's first check holds at every trip. -/
theorem chk1 : k1_chk1 i k (w6 k.val) (w7 k.val) (w7 k.val) (w9 k.val) (w10 k.val) := by revert i k; decide +kernel
/-- The body's second check holds at every trip. -/
theorem chk2 : k1_chk2 (w7 k.val) := by revert k; decide +kernel
/-- The body's third check holds at every trip. -/
theorem chk3 : k1_chk3 (w7 k.val) := by revert k; decide +kernel
/-- The check on the last slot holds. -/
theorem chk4 : k1_chk4 (w9 4) := by decide +kernel
/-- The check on the last block holds. -/
theorem chk5 : k1_chk5 i (w10 4) := by revert i; decide +kernel

end Cert.Proof.Words

end
-- ==== Proof.Setup.lean ====
/-
  The program as the launch theorem sees it, and the buffers of its SparseCore call as a tile addresses them: the
  packed table, the index list and the gathered rows in main memory, the two slots of the index window and the two of
  the row window in the tile's memory, and the semaphores of both.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueLayout
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Words

@[expose] public section

noncomputable section

namespace Cert.Proof.Setup

open Cert.KernelIdeal Cert.KernelIdeal.Gen Cert.Proof.Words

open Idealize.ShloMosaic
open Idealize.ShloMosaic.ValueIdx (ix1 ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 2) fun p => (pcfgs (F := F) p).Adm
abbrev K : SparseCore.Cfg τ sig (ΛP (F := F)) 1 := sc (F := F)
/-- The gather runs on two SparseCores. -/
theorem nCore_zero : (K (F := F)).nCore 0 = 2 := rfl
/-- The gather runs on sixteen tiles of each. -/
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's static facts. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := (UH × UP) × Counters

abbrev MM (F : FTy → Type) : Type := MT nD τ sig (HIx 1) (Elt F) ℕ UU ℕ

/-! ## A tile's buffers -/

/-- The tile's SparseCore and its subcore there. -/
abbrev cV (i : grid1.Coords) : Fin τ.nSC := (i 0).castLE hcore1
abbrev jV (i : grid1.Coords) : Fin τ.nSub := (i 1).castLE hsub1
abbrev thr (d : Dev nD) (i : grid1.Coords) : Thread nD τ := V d (cV i) (jV i)

abbrev tabV : Memref sig .scVector .hbm S100000x128 .f32 := Memref.whole main_v3_scv
abbrev idxV : Memref sig .scVector .hbm S1x16384 .i32 := Memref.whole main_v0_scv
abbrev outV : Memref sig .scVector .hbm S16384x128 .f32 := Memref.whole main_v4_scv
abbrev bufI : Memref sig .scVector .vmem S2x1x128 .i32 := Memref.whole cc1_scoped0
abbrev bufO : Memref sig .scVector .vmem S2x128x128 .f32 := Memref.whole cc1_scoped2

/-- A window's slot lies inside the buffer of windows. -/
theorem inb_slotI (n : ℕ) : ∀ a, (![n % 2, 0, 0] : Fin 3 → ℕ) a + S1x1x128.size a ≤ S2x1x128.size a := by
  intro a; have := Nat.mod_lt n (show 0 < 2 by decide)
  match a with
  | 0 => show n % 2 + 1 ≤ 2; omega
  | 1 => exact Nat.le_refl _
  | 2 => exact Nat.le_refl _
/-- A block's slot lies inside the buffer of blocks. -/
theorem inb_slotO (n : ℕ) : ∀ a, (![n % 2, 0, 0] : Fin 3 → ℕ) a + S1x128x128.size a ≤ S2x128x128.size a := by
  intro a; have := Nat.mod_lt n (show 0 < 2 by decide)
  match a with
  | 0 => show n % 2 + 1 ≤ 2; omega
  | 1 => exact Nat.le_refl _
  | 2 => exact Nat.le_refl _
/-- A slot's counter is one of the two. -/
theorem inb_sem (n : ℕ) : ∀ a, (![n % 2] : Fin 1 → ℕ) a + S1.size a ≤ S2.size a := by
  intro a; have := Nat.mod_lt n (show 0 < 2 by decide)
  match a with
  | 0 => show n % 2 + 1 ≤ 2; omega
/-- A window lies inside the index list. -/
theorem inb_blkI (i : grid1.Coords) (n : Fin 4) : ∀ a, (![0, base i + 128 * n.val] : Fin 2 → ℕ) a + S1x128.size a ≤ S1x16384.size a := by
  intro a; have := base_le i; have := n.isLt
  match a with
  | 0 => exact Nat.le_refl _
  | 1 => show base i + 128 * n.val + 128 ≤ 16384; omega
/-- A block lies inside the output. -/
theorem inb_blkO (i : grid1.Coords) (n : Fin 4) : ∀ a, (![base i + 128 * n.val, 0] : Fin 2 → ℕ) a + S128x128.size a ≤ S16384x128.size a := by
  intro a; have := base_le i; have := n.isLt
  match a with
  | 0 => show base i + 128 * n.val + 128 ≤ 16384; omega
  | 1 => exact Nat.le_refl _

/-- The slot of the index window, and of the row window, that the `n`-th block goes through. -/
abbrev slotI (n : ℕ) : Memref sig .scVector .vmem S1x128 .i32 :=
  (bufI.slice (Rect.unit (s := S2x1x128) ![n % 2, 0, 0] S1x1x128.size (inb_slotI n)) (fun _ => rfl)).squeeze S1x128 squeezes_S1x1x128_S1x128
/-- The slot of block `n`. -/
abbrev slotO (n : ℕ) : Memref sig .scVector .vmem S128x128 .f32 :=
  (bufO.slice (Rect.unit (s := S2x128x128) ![n % 2, 0, 0] S1x128x128.size (inb_slotO n)) (fun _ => rfl)).squeeze S128x128 squeezes_S1x128x128_S128x128
/-- The two windows' semaphores of that slot. -/
abbrev semI (n : ℕ) : DmaSem sig := ((cc1_scoped1.slice (Rect.unit (s := S2) ![n % 2] S1.size (inb_sem n))).squeeze S_ squeezes_S1_S_).sem
/-- The counter of the copy back of block `n`. -/
abbrev semO (n : ℕ) : DmaSem sig := ((cc1_scoped3.slice (Rect.unit (s := S2) ![n % 2] S1.size (inb_sem n))).squeeze S_ squeezes_S1_S_).sem
/-- Block `n` of the tile's part of the index list, and of the gathered rows. -/
abbrev blkI (i : grid1.Coords) (n : Fin 4) : Memref sig .scVector .hbm S1x128 .i32 :=
  idxV.slice (Rect.unit (s := S1x16384) ![0, base i + 128 * n.val] S1x128.size (inb_blkI i n)) (fun _ => rfl)
/-- Block `n` of a tile's part of the output. -/
abbrev blkO (i : grid1.Coords) (n : Fin 4) : Memref sig .scVector .hbm S128x128 .f32 :=
  outV.slice (Rect.unit (s := S16384x128) ![base i + 128 * n.val, 0] S128x128.size (inb_blkO i n)) (fun _ => rfl)
/-- The whole table, as the gather addresses it. -/
abbrev tabAll : Memref sig .scVector .hbm S100000x128 .f32 :=
  tabV.slice (Rect.unit (s := S100000x128) ![0, 0] S100000x128.size inb_S100000x128_S100000x128_0_0) (fun _ => rfl)
/-- The slot of the index window as the gather's list of 128 row numbers. -/
abbrev listI (n : ℕ) : Memref sig .scVector .vmem S128 .i32 :=
  ((slotI n).slice (Rect.unit (s := S1x128) ![0, 0] S1x128.size inb_S1x128_S1x128_0_0) (fun _ => rfl)).squeeze S128 squeezes_S1x128_S128

/-- The counter of the gather. -/
abbrev semG : DmaSem sig := cc1_scoped4.sem

/-! ## The values -/

/-- The row a word of the index list names (the words are below 100000 wherever the kernel is claimed). -/
def rowAt (w : BitVec 32) : Fin 100000 := ⟨w.toNat % 100000, Nat.mod_lt _ (by decide)⟩

/-- What the call leaves in the gathered rows: row `r` is the table's row that word `r` of the index list names. -/
def gathered (fT : S100000x128.Idx → Elt F .f32) (fI : S1x16384.Idx → Elt F .i32) : S16384x128.Idx → Elt F .f32 :=
  fun x => fT (ix2 (rowAt (fI (ix2 (0 : Fin 1) (x 0)))) (x 1))

end Cert.Proof.Setup

end
-- ==== Proof.Steps.lean ====
/-
  The three transfers of the pipelined gather as a tile makes them, each over what it owns of the memrefs involved: a copy
  started and waited for (the fetch of a block of the index list, the write-back of a block of gathered rows), and the
  indirect gather through a slot of the index window.
-/
module

public import proofs.«01_k».proof.Proof.Setup

@[expose] public section

noncomputable section

namespace Cert.Proof.Steps

open Cert.KernelIdeal Cert.KernelIdeal.Gen Cert.Proof.Words Cert.Proof.Setup

open Idealize.ShloMosaic
open Idealize.ShloMosaic.ValueIdx (ix1 ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (d : Dev nD) (i : grid1.Coords)
variable (O : CellTallies nD τ sig (HIx 1)) (W : Waits sig (HIx 1))

/-- What the tile owes, its waits so far recorded: those it began with, and its own. -/
def owesT : sProp 𝕄 := iprop(∃ W', ⌜∀ p ∈ W', p ∈ W ∨ p.2 = none⌝ ∗ owes (thr d i) O W')

/-- A memref owned at what it reads of `f` is its elements at `f`. -/
theorem owns_read {c : Thread nD τ} {sp : Space} {sh : Shape} {e : EltTy} (m : Memref sig c.2.kind sp sh e) (q : PosShare TreeShare)
    (f : m.view.ty.Contents (Elt F)) :
    (owns c m q (m.view.read (Elt F) f) : sProp 𝕄) = (m.view.loc c ↦[m.view.set]{q} f) := by
  have h : (owns c m q (m.view.read (Elt F) f) : sProp 𝕄) ⊢ (m.view.loc c ↦[m.view.set]{q} f) := ?_
  · exact BI.Entails.antisymm h (owns_intro c m q f)
  unfold owns
  iintro ⟨%g, %hg, H⟩
  have e : (m.view.loc c ↦[m.view.set]{q} g : sProp 𝕄) = m.view.loc c ↦[m.view.set]{q} f := by
    refine pointsTo_congr fun x hx => ?_
    obtain ⟨y, -, rfl⟩ := Finset.mem_map.mp hx
    have := congrFun hg y
    rw [View.read_apply, View.read_apply] at this
    exact (cast_inj _).mp this
  iapply (Entails.of_eq e) $$ H

/-! ## A copy -/

section Copy

variable {sp sp' : Space} {s : Shape} {e : EltTy} (src : Memref sig .scVector sp s e) (dst : Memref sig .scVector sp' s e)
variable (sem : DmaSem sig) (q : PosShare TreeShare) (X : s.Idx → Elt F e)

/-- A copy of `src`, which reads `X`, to `dst`, under way: it delivers `dst` reading `X` and `src` back. -/
def fly : sProp 𝕄 :=
  Transfers.Flight countersEmb (thr d i) (.dma sem) (default : HIx 1) dst.view.dmaCredit
    iprop(owns (thr d i) dst fullShare X ∗ owns (thr d i) src q X)

/-- The copy started. -/
theorem copy_start (hs : 0 < s.numel) {hsrc : src.view.WordExact} {hdst : dst.view.WordExact}
    {hsem : DmaTarget.Typed (nD := nD) sp (.dma sem) (.here (p := (thr d i).2) dst)} (Q : PUnit → sProp 𝕄) :
    iprop(owns (thr d i) src q X ∗ (∃ Y, owns (thr d i) dst fullShare Y) ∗ semVal (thr d i, .dma sem) 0)
      ⊢ iprop((fly d i src dst sem q X -∗ Q ⟨⟩)
        -∗ wp frame (wpE (defs₀ (F := F)) 𝒱₀ (thr d i) none) Set.univ
            (Prog.lift (.enqueueDma src (.here (p := (thr d i).2) dst) (.dma sem) hsrc hdst hsem)) Q) := by
  unfold owns
  iintro ⟨⟨%f, %hf, Hs⟩, ⟨%Y, %g, %hg, Hd⟩, Hv⟩ Hk
  subst hf
  iapply (Transfers.wp_dmaLocal countersEmb 𝒱₀ (thr d i) none (src := src) (dst := dst) (default : HIx 1) dst.view.dmaCredit rfl (View.dmaCredit_pos _ hs) (Finset.Subset.refl _)) $$ [Hs Hd Hv]
  · isplitl [Hs]; · iexact Hs
    isplitl [Hd]; · iexact Hd
    iexact Hv
  iintro Hf
  sl_step
  iapply Hk
  unfold fly owns
  iapply (Transfers.Flight_mono countersEmb (thr d i) ?_) $$ Hf
  iintro ⟨Hd, Hs⟩
  isplitl [Hd]
  · iexists _; isplitr
    swap; · iexact Hd
    ipureintro; exact View.read_write_univ _ _
  · iexists f; isplitr
    · ipureintro; rfl
    · iexact Hs

/-- The copy waited for. -/
theorem copy_wait {hsrc : src.view.WordExact} {hdst : dst.view.WordExact} (Q : PUnit → sProp 𝕄) :
    iprop(fly d i src dst sem q X ∗ owesT (F := F) d i O W ∗ Transfers.MayWaits (thr d i) (default : HIx 1) O)
      ⊢ iprop((iprop(owns (thr d i) dst fullShare X ∗ owns (thr d i) src q X ∗ semVal (thr d i, .dma sem) 0 ∗ owesT (F := F) d i O W) -∗ Q ⟨⟩)
        -∗ wp frame (wpE (defs₀ (F := F)) 𝒱₀ (thr d i) none) Set.univ
            (Prog.lift (.waitDma2 sem src dst hsrc hdst)) Q) := by
  unfold fly owesT
  iintro ⟨Hf, ⟨%W', %hW', HO⟩, Hmw⟩ Hk
  iapply (Transfers.wp_waitLocalO countersEmb 𝒱₀ (thr d i) none (srcw := src) (dstw := dst) (default : HIx 1) rfl) $$ [Hf HO Hmw]
  · isplitl [Hf]; · iexact Hf
    isplitl [HO]; · iexact HO
    iapply (Transfers.MayWaits.elim (SemLoc.dma sem)) $$ Hmw
  iintro ⟨⟨Hd, Hs⟩, Hv, HO⟩
  sl_step
  iapply Hk
  iframe Hd Hs Hv
  iexists _; isplitr
  swap; · iexact HO
  ipureintro; intro p hp
  rcases Finset.mem_insert.mp hp with hp | hp
  · exact .inr (hp ▸ rfl)
  · exact hW' p hp

end Copy

/-! ## The gather -/

section Gather

variable (n : Fin 4) (q : PosShare TreeShare)
variable (fT : S100000x128.Idx → Elt F .f32) (fI : S1x16384.Idx → Elt F .i32)

/-- The list's elements are the slot's. -/
theorem set_listI : (listI n.val).view.set = (slotI n.val).view.set := by
  show (((slotI n.val).view.slice (Rect.unit (s := S1x128) ![0, 0] S1x128.size inb_S1x128_S1x128_0_0)).reshape S128 squeezes_S1x128_S128.numel_eq).set = _
  rw [View.set_reshape, View.set_slice, Rect.set_eq_univ_of_whole]
  · rfl
  · intro a; match a with
    | 0 => exact ⟨rfl, rfl, rfl⟩
    | 1 => exact ⟨rfl, rfl, rfl⟩

/-- The list's word `j` is the slot's word `j` of its one row. -/
theorem read_listI (f : (slotI n.val).view.ty.Contents (Elt F)) (j : S128.Idx) :
    (listI n.val).view.read (Elt F) f j
      = (slotI n.val).view.read (Elt F) f (ix2 (0 : Fin 1) (j 0)) := by
  show (slotI n.val).view.read (Elt F) f ((Rect.unit (s := S1x128) ![0, 0] S1x128.size inb_S1x128_S1x128_0_0).emb
    (Shape.reshapeEquiv squeezes_S1x128_S128.numel_eq j)) = _
  congr 1
  rw [Shape.reshapeEquiv_eq_of_rowMajor squeezes_S1x128_S128.numel_eq (y := ix2 (0 : Fin 1) (j 0))]
  · funext a
    refine Fin.ext ?_
    match a with
    | 0 => rfl
    | 1 => show 0 + 1 * _ = _; simp
  · rw [Shape.rowMajor_val_two, Shape.rowMajor_val_one]; simp

/-- A window read from the index list. -/
theorem read_blkI (j : Fin 128) :
    (blkI i n).view.read (Elt F) fI (ix2 (0 : Fin 1) j)
      = fI (ix2 (0 : Fin 1) ⟨base i + 128 * n.val + j.val, by have := base_le i; omega⟩) := by
  show fI _ = fI _
  congr 1
  funext a
  refine Fin.ext ?_
  match a with
  | 0 => rfl
  | 1 => show base i + 128 * n.val + 1 * j.val = base i + 128 * n.val + j.val; omega

/-- A block read from the output. -/
theorem read_blkO (f : S16384x128.Idx → Elt F .f32) (x : S128x128.Idx) :
    (blkO i n).view.read (Elt F) f x
      = f (ix2 ⟨base i + 128 * n.val + (x 0).val, by have := base_le i; have := (show (x 0).val < 128 from (x 0).isLt); omega⟩ (x 1)) := by
  show f _ = f _
  congr 1
  funext a
  refine Fin.ext ?_
  match a with
  | 0 => show base i + 128 * n.val + 1 * (x 0).val = base i + 128 * n.val + (x 0).val; omega
  | 1 => show 0 + 1 * (x 1).val = (x 1).val; omega

/-- The whole table read is the table. -/
theorem read_tabAll : (tabAll.view.read (Elt F) fT) = fT := by
  funext x
  show fT _ = fT _
  congr 1
  funext a
  refine Fin.ext ?_
  match a with
  | 0 => show 0 + 1 * (x 0).val = (x 0).val; omega
  | 1 => show 0 + 1 * (x 1).val = (x 1).val; omega

/-- A slot holding block `n` of the index list lists, in order, the block's words. -/
theorem list_word {f : (slotI n.val).view.ty.Contents (Elt F)}
    (hf : (slotI n.val).view.read (Elt F) f = (blkI i n).view.read (Elt F) fI) (x : S128.Idx) :
    (listI n.val).view.read (Elt F) f x
      = fI (ix2 (0 : Fin 1) ⟨base i + 128 * n.val + (x 0).val, by have := base_le i; have := (show (x 0).val < 128 from (x 0).isLt); omega⟩) := by
  rw [read_listI, hf]
  exact read_blkI i n fI (x 0)

/-- The words of the list are below the table's number of rows. -/
theorem list_lt (hI : ∀ x, (fI x).toNat < 100000) {f : (slotI n.val).view.ty.Contents (Elt F)}
    (hf : (slotI n.val).view.read (Elt F) f = (blkI i n).view.read (Elt F) fI) (x : S128.Idx) :
    ((listI n.val).view.read (Elt F) f x).toNat < 100000 := by
  rw [list_word i n fI hf]
  exact hI _

/-- What the gather brings of the table is block `n` of the gathered rows. -/
theorem payload_eq (hI : ∀ x, (fI x).toNat < 100000) {f : (slotI n.val).view.ty.Contents (Elt F)}
    (hf : (slotI n.val).view.read (Elt F) f = (blkI i n).view.read (Elt F) fI)
    (hn : S128.numel = S128x128.size gathers_S100000x128_S128x128.axis')
    (hin : ∀ x, ((listI n.val).view.read (Elt F) f x).toNat < S100000x128.size gathers_S100000x128_S128x128.axis) :
    SparseCore.gatherPayload gathers_S100000x128_S128x128 (tabAll.view.read (Elt F) fT)
        (SparseCore.rows ((listI n.val).view.read (Elt F) f) hn hin)
      = (blkO i n).view.read (Elt F) (gathered fT fI) := by
  funext x
  rw [read_blkO, read_tabAll]
  unfold SparseCore.gatherPayload gathered
  congr 1
  funext a
  refine Fin.ext ?_
  match a with
  | 0 =>
    show (gathers_S100000x128_S128x128.idx _ x gathers_S100000x128_S128x128.axis).val = (rowAt _).val
    rw [Shape.Gathers.idx_axis]
    show ((listI n.val).view.read (Elt F) f (S128.rowMajor.symm _)).toNat = _ % 100000
    rw [list_word i n fI hf, Nat.mod_eq_of_lt (hI _)]
    congr 4
    congr 1
    rw [← Shape.rowMajor_val_one, Equiv.apply_symm_apply]
    rfl
  | 1 => exact Shape.Gathers.idx_of_ne gathers_S100000x128_S128x128 _ x (1 : Fin 2) (by decide)

/-- The rows of a slot together cost the slot's credit. -/
theorem rows_credit : ∑ j, ((slotO n.val).slice (S128x128.rowRect gathers_S100000x128_S128x128.axis' j)
    (S128x128.stride_rowRect gathers_S100000x128_S128x128.axis' j)).view.dmaCredit = (slotO n.val).view.dmaCredit := by
  revert n; decide

/-- The gather under way: it delivers the slot of gathered rows, the table's share and the list back. -/
def flyG : sProp 𝕄 :=
  Transfers.Flight countersEmb (thr d i) (.dma semG) (default : HIx 1) (slotO n.val).view.dmaCredit
    iprop(owns (thr d i) (slotO n.val) fullShare ((blkO i n).view.read (Elt F) (gathered fT fI))
      ∗ owns (thr d i) tabAll q (tabAll.view.read (Elt F) fT) ∗ (∃ Y, owns (thr d i) (slotI n.val) fullShare Y))

/-- The gather started: rows named by the slot's block of the index list. -/
theorem gather_start (hI : ∀ x, (fI x).toNat < 100000) {hp hn hsrc he hsp hr} (Q : PUnit → sProp 𝕄) :
    iprop(owns (thr d i) (slotI n.val) fullShare ((blkI i n).view.read (Elt F) fI)
        ∗ (∃ Y, owns (thr d i) (slotO n.val) fullShare Y) ∗ owns (thr d i) tabAll q (tabAll.view.read (Elt F) fT)
        ∗ semVal (thr d i, .dma semG) 0)
      ⊢ iprop((flyG d i n q fT fI -∗ Q ⟨⟩)
        -∗ wp frame (wpE (defs₀ (F := F)) 𝒱₀ (thr d i) none) Set.univ
            (SparseCore.enqueueIndirectGather hp tabAll (slotO n.val) gathers_S100000x128_S128x128 (listI n.val) hn semG hsrc he hsp hr) Q) := by
  rw [show (SparseCore.enqueueIndirectGather hp tabAll (slotO n.val) gathers_S100000x128_S128x128 (listI n.val) hn semG hsrc he hsp hr
        : Prog (TpuEff nD τ sig (Elt F) Λ₀ (thr d i).2) PUnit)
      = SparseCore.enqueueIndirectGather hp tabAll (slotO n.val) gathers_S100000x128_S128x128 (listI n.val) hn semG hsrc he hsp hr
        >>= fun _ => .ret ⟨⟩ from rfl]
  rw [owns_read (c := thr d i) tabAll q fT]
  unfold flyG
  rw [owns_read (c := thr d i) tabAll q fT]
  unfold owns
  iintro ⟨⟨%f, %hf, Hs⟩, ⟨%Y, %g, %hg, Hd⟩, Ht, Hv⟩ Hk
  have hin : ∀ x, ((listI n.val).view.read (Elt F) f x).toNat < S100000x128.size gathers_S100000x128_S128x128.axis :=
    fun x => list_lt i n fI hI hf x
  rw [← set_listI n]
  iapply (SparseCore.wp_indirectGatherLocal countersEmb 𝒱₀ (thr d i) none (src := tabAll) (dst := slotO n.val) (offs := listI n.val)
    (fs := fT) (fd := g) (fo := f) (q := q) (qo := fullShare) (sem := semG)
    (default : HIx 1) (slotO n.val).view.dmaCredit (rows_credit n) (by decide) hin) $$ [Hs Hd Ht Hv]
  · isplitl [Ht]; · iexact Ht
    isplitl [Hd]; · iexact Hd
    isplitl [Hs]; · iexact Hs
    iexact Hv
  iintro Hf
  sl_step
  iapply Hk
  iapply (Transfers.Flight_mono countersEmb (thr d i) ?_) $$ Hf
  iintro ⟨Hd, Ht, Hs⟩
  isplitl [Hd]
  · iexists _; isplitr
    swap; · iexact Hd
    ipureintro
    rw [View.read_write_univ]
    exact payload_eq i n fT fI hI hf _ _
  isplitl [Ht]; · iexact Ht
  iexists _, f; isplitr
  · ipureintro; rfl
  · iexact Hs

/-- The gather waited for. -/
theorem gather_wait {hsrc : tabAll.view.WordExact} {hdst : (slotO n.val).view.WordExact} (Q : PUnit → sProp 𝕄) :
    iprop(flyG d i n q fT fI ∗ owesT (F := F) d i O W ∗ Transfers.MayWaits (thr d i) (default : HIx 1) O)
      ⊢ iprop((iprop(owns (thr d i) (slotO n.val) fullShare ((blkO i n).view.read (Elt F) (gathered fT fI))
            ∗ owns (thr d i) tabAll q (tabAll.view.read (Elt F) fT) ∗ (∃ Y, owns (thr d i) (slotI n.val) fullShare Y)
            ∗ semVal (thr d i, .dma semG) 0 ∗ owesT (F := F) d i O W) -∗ Q ⟨⟩)
        -∗ wp frame (wpE (defs₀ (F := F)) 𝒱₀ (thr d i) none) Set.univ
            (SparseCore.waitIndirectGather semG tabAll (slotO n.val) hsrc hdst) Q) := by
  unfold flyG owesT
  iintro ⟨Hf, ⟨%W', %hW', HO⟩, Hmw⟩ Hk
  iapply (Transfers.wp_waitLocalO countersEmb 𝒱₀ (thr d i) none (srcw := tabAll) (dstw := slotO n.val) (default : HIx 1) rfl) $$ [Hf HO Hmw]
  · isplitl [Hf]; · iexact Hf
    isplitl [HO]; · iexact HO
    iapply (Transfers.MayWaits.elim (SemLoc.dma semG)) $$ Hmw
  iintro ⟨⟨Hd, Ht, Hs⟩, Hv, HO⟩
  sl_step
  iapply Hk
  iframe Hd Ht Hs Hv
  iexists _; isplitr
  swap; · iexact HO
  ipureintro; intro p hp
  rcases Finset.mem_insert.mp hp with hp | hp
  · exact .inr (hp ▸ rfl)
  · exact hW' p hp

end Gather

end Cert.Proof.Steps

end
-- ==== Proof.Tile.lean ====
/-
  One tile's run of the gather: the pipelined loop, block by block.
-/
module

public import proofs.«01_k».proof.Proof.Steps

@[expose] public section

noncomputable section

namespace Cert.Proof.Tile

open Cert.KernelIdeal Cert.KernelIdeal.Gen Cert.Proof.Words Cert.Proof.Setup Cert.Proof.Steps

open Idealize.ShloMosaic
open Idealize.ShloMosaic.SparseCore (S V T bigSep_insert')
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (d : Dev nD) (i : grid1.Coords)
variable (O : CellTallies nD τ sig (HIx 1)) (W : Waits sig (HIx 1))
variable (q : PosShare TreeShare)
variable (fT : S100000x128.Idx → Elt F .f32) (fI : S1x16384.Idx → Elt F .i32) (f0 : S16384x128.Idx → Elt F .f32)

/-! ## What the tile holds -/

/-- Block `b` of the index list. -/
def ptI (b : Fin 4) : sProp 𝕄 := owns (thr d i) (blkI i b) fullShare ((blkI i b).view.read (Elt F) fI)
/-- Block `b` of the gathered rows after `n` blocks were written back. -/
def ptO (n : ℕ) (b : Fin 4) : sProp 𝕄 :=
  owns (thr d i) (blkO i b) fullShare ((blkO i b).view.read (Elt F) (if b.val < n then gathered fT fI else f0))
/-- The tile's share of the table. -/
def ptT : sProp 𝕄 := owns (thr d i) tabAll q (tabAll.view.read (Elt F) fT)

/-- A slot and its semaphore, nothing under way. -/
def freeI (n : ℕ) : sProp 𝕄 := iprop((∃ Y, owns (thr d i) (slotI n) fullShare Y) ∗ semVal (thr d i, .dma (semI n)) 0)
/-- A slot of blocks that no copy uses. -/
def freeO (n : ℕ) : sProp 𝕄 := iprop((∃ Y, owns (thr d i) (slotO n) fullShare Y) ∗ semVal (thr d i, .dma (semO n)) 0)
/-- The fetch of block `b` under way, and the write-back of block `b` under way. -/
def flyI (b : Fin 4) : sProp 𝕄 := fly d i (blkI i b) (slotI b.val) (semI b.val) fullShare ((blkI i b).view.read (Elt F) fI)
/-- A block on its way back. -/
def flyO (b : Fin 4) : sProp 𝕄 :=
  fly d i (slotO b.val) (blkO i b) (semO b.val) fullShare ((blkO i b).view.read (Elt F) (gathered fT fI))

/-- The slot the `n`-th block is fetched to: under way while there is such a block. -/
def nextI (n : ℕ) : sProp 𝕄 := if h : n < 4 then flyI d i fI ⟨n, h⟩ else freeI d i n
/-- The other row slot at trip `n`: the write-back of the block before under way, if there is one. -/
def prevO (n : ℕ) : sProp 𝕄 := if h : 0 < n ∧ n - 1 < 4 then flyO d i fT fI ⟨n - 1, h.2⟩ else freeO d i (n + 1)

/-- The blocks of the list held at trip `n`, and during it while two are under way. -/
def restI (n : ℕ) : sProp 𝕄 := bigSep (Finset.univ.filter fun b : Fin 4 => b.val ≠ n) (ptI d i fI)
/-- The windows that are neither read nor fetched ahead. -/
def midI (n : ℕ) : sProp 𝕄 := bigSep (Finset.univ.filter fun b : Fin 4 => b.val ≠ n ∧ b.val ≠ n + 1) (ptI d i fI)
/-- The blocks of gathered rows held at trip `n`, and during it. -/
def restO (n : ℕ) : sProp 𝕄 := bigSep (Finset.univ.filter fun b : Fin 4 => b.val + 1 ≠ n) (ptO d i fT fI f0 n)
/-- The blocks that are neither filled nor on their way back. -/
def midO (n : ℕ) : sProp 𝕄 := bigSep (Finset.univ.filter fun b : Fin 4 => b.val + 1 ≠ n ∧ b.val ≠ n) (ptO d i fT fI f0 n)

/-! Memrefs of the windows at offsets not yet in closed form. -/

abbrev slI (o : Fin 3 → ℕ) (h : ∀ a, o a + S1x1x128.size a ≤ S2x1x128.size a) : Memref sig .scVector .vmem S1x128 .i32 :=
  (bufI.slice (Rect.unit (s := S2x1x128) o S1x1x128.size h) (fun _ => rfl)).squeeze S1x128 squeezes_S1x1x128_S1x128
abbrev slO (o : Fin 3 → ℕ) (h : ∀ a, o a + S1x128x128.size a ≤ S2x128x128.size a) : Memref sig .scVector .vmem S128x128 .f32 :=
  (bufO.slice (Rect.unit (s := S2x128x128) o S1x128x128.size h) (fun _ => rfl)).squeeze S128x128 squeezes_S1x128x128_S128x128
abbrev smI (o : Fin 1 → ℕ) (h : ∀ a, o a + S1.size a ≤ S2.size a) : DmaSem sig :=
  ((cc1_scoped1.slice (Rect.unit (s := S2) o S1.size h)).squeeze S_ squeezes_S1_S_).sem
abbrev smO (o : Fin 1 → ℕ) (h : ∀ a, o a + S1.size a ≤ S2.size a) : DmaSem sig :=
  ((cc1_scoped3.slice (Rect.unit (s := S2) o S1.size h)).squeeze S_ squeezes_S1_S_).sem
abbrev bkI (o : Fin 2 → ℕ) (h : ∀ a, o a + S1x128.size a ≤ S1x16384.size a) : Memref sig .scVector .hbm S1x128 .i32 :=
  idxV.slice (Rect.unit (s := S1x16384) o S1x128.size h) (fun _ => rfl)
abbrev bkO (o : Fin 2 → ℕ) (h : ∀ a, o a + S128x128.size a ≤ S16384x128.size a) : Memref sig .scVector .hbm S128x128 .f32 :=
  outV.slice (Rect.unit (s := S16384x128) o S128x128.size h) (fun _ => rfl)

/-- The slot that the program slices for a window. -/
theorem slI_eq {o h} (n : ℕ) (e : o = ![n % 2, 0, 0]) : slI o h = slotI n := by subst e; rfl
/-- The slot that the program slices for a block. -/
theorem slO_eq {o h} (n : ℕ) (e : o = ![n % 2, 0, 0]) : slO o h = slotO n := by subst e; rfl
/-- The counter that the program slices for a window. -/
theorem smI_eq {o h} (n : ℕ) (e : o = ![n % 2]) : smI o h = semI n := by subst e; rfl
/-- The counter that the program slices for a block. -/
theorem smO_eq {o h} (n : ℕ) (e : o = ![n % 2]) : smO o h = semO n := by subst e; rfl

/-- Window slots repeat every two trips. -/
theorem freeI_add_two (n : ℕ) : freeI (F := F) d i (n + 2) = freeI d i n := by
  unfold freeI
  rw [show slotI (n + 2) = slotI n from slI_eq n (by rw [Nat.add_mod_right]),
    show semI (n + 2) = semI n from smI_eq n (by rw [Nat.add_mod_right])]
/-- Block slots repeat every two trips. -/
theorem freeO_add_two (n : ℕ) : freeO (F := F) d i (n + 2) = freeO d i n := by
  unfold freeO
  rw [show slotO (n + 2) = slotO n from slO_eq n (by rw [Nat.add_mod_right]),
    show semO (n + 2) = semO n from smO_eq n (by rw [Nat.add_mod_right])]

/-- The window to be fetched ahead is taken from the others. -/
theorem restI_take (n : ℕ) (h : n + 1 < 4) : restI d i fI n = iprop(ptI d i fI ⟨n + 1, h⟩ ∗ midI d i fI n) := by
  unfold restI midI
  rw [← bigSep_insert' (by simp)]
  congr 1; ext b; simp [Fin.ext_iff]; omega
/-- In the last trip none is taken. -/
theorem restI_last (n : ℕ) (h : ¬ n + 1 < 4) : restI d i fI n = midI d i fI n := by
  unfold restI midI
  congr 1; ext b; simp; have := b.isLt; omega
/-- The window just read is put back. -/
theorem restI_put (n : Fin 4) : iprop(ptI d i fI n ∗ midI d i fI n.val) = restI d i fI (n.val + 1) := by
  unfold restI midI
  rw [← bigSep_insert' (by simp)]
  congr 1; ext b; simp [Fin.ext_iff]; omega
/-- The block to be filled is taken from the others. -/
theorem restO_take (n : Fin 4) : restO d i fT fI f0 n.val = iprop(ptO d i fT fI f0 n.val n ∗ midO d i fT fI f0 n.val) := by
  unfold restO midO
  rw [← bigSep_insert' (by simp)]
  congr 1; ext b; simp [Fin.ext_iff]; omega
/-- The other blocks are the same after the trip. -/
theorem midO_succ (n : Fin 4) : midO d i fT fI f0 n.val
    = bigSep (Finset.univ.filter fun b : Fin 4 => b.val + 1 ≠ n.val ∧ b.val ≠ n.val) (ptO d i fT fI f0 (n.val + 1)) := by
  unfold midO ptO
  refine bigSep_congr fun b hb => ?_
  have := (Finset.mem_filter.mp hb).2
  rw [if_congr (show b.val < n.val ↔ b.val < n.val + 1 by omega) rfl rfl]
/-- In the first trip none is put back. -/
theorem restO_zero (n : Fin 4) (h : ¬ 0 < n.val) : midO d i fT fI f0 n.val = restO d i fT fI f0 (n.val + 1) := by
  rw [midO_succ]; unfold restO
  congr 1; ext b; simp; omega
/-- The block that has come back is put back. -/
theorem restO_put (n : Fin 4) (h : 0 < n.val ∧ n.val - 1 < 4) :
    iprop(ptO d i fT fI f0 (n.val + 1) ⟨n.val - 1, h.2⟩ ∗ midO d i fT fI f0 n.val) = restO d i fT fI f0 (n.val + 1) := by
  rw [midO_succ]; unfold restO
  rw [← bigSep_insert' (by simp; omega)]
  congr 1; ext b; simp [Fin.ext_iff]; omega

/-! ## The steps of a trip -/

/-- The fetch of the next block, if there is one. -/
theorem fetch_issue (n : Fin 4) {c : Prop} [Decidable c] (hc : c ↔ n.val < 3) {o4 : Fin 3 → ℕ} {o5 : Fin 2 → ℕ} {o6 : Fin 1 → ℕ}
    (e4 : n.val < 3 → o4 = ![(n.val + 1) % 2, 0, 0]) (e5 : n.val < 3 → o5 = ![0, base i + 128 * (n.val + 1)])
    (e6 : n.val < 3 → o6 = ![(n.val + 1) % 2]) {h4 : c → _} {h5 : c → _} {h6 : c → _}
    {hs : ∀ h : c, (bkI o5 (h5 h)).view.WordExact} {hd : ∀ h : c, (slI o4 (h4 h)).view.WordExact}
    {ht : ∀ h : c, DmaTarget.Typed (nD := nD) .hbm (.dma (smI o6 (h6 h))) (.here (p := (thr d i).2) (slI o4 (h4 h)))}
    (Q : PUnit → sProp 𝕄) :
    iprop(freeI d i (n.val + 1) ∗ restI d i fI n.val)
      ⊢ iprop((iprop(nextI d i fI (n.val + 1) ∗ midI d i fI n.val) -∗ Q ⟨⟩)
        -∗ wp frame (wpE (defs₀ (F := F)) 𝒱₀ (thr d i) none) Set.univ
            (if h : c then Prog.lift (.enqueueDma (bkI o5 (h5 h)) (.here (p := (thr d i).2) (slI o4 (h4 h))) (.dma (smI o6 (h6 h))) (hs h) (hd h) (ht h))
              else .ret ⟨⟩) Q) := by
  by_cases hn : n.val < 3
  · obtain rfl := e4 hn
    obtain rfl := e5 hn
    obtain rfl := e6 hn
    rw [dif_pos (hc.mpr hn), restI_take d i fI n.val (by omega)]
    unfold nextI freeI
    rw [dif_pos (by omega)]
    iintro ⟨⟨Hs, Hv⟩, Hb, Hm⟩ Hk
    iapply (copy_start d i (blkI i ⟨n.val + 1, by omega⟩) (slotI (n.val + 1)) (semI (n.val + 1)) fullShare _ (by decide) Q) $$ [Hs Hv Hb]
    · unfold ptI; iframe Hs Hv Hb
    iintro Hf
    iapply Hk
    unfold flyI
    iframe Hf Hm
  · rw [dif_neg (fun h => hn (hc.mp h)), restI_last d i fI n.val (by omega)]
    unfold nextI
    rw [dif_neg (by omega)]
    iintro ⟨Hf, Hm⟩ Hk
    sl_step
    iapply Hk
    iframe Hf Hm

/-- The fetch of the trip's own block, waited for. -/
theorem fetch_wait (n : Fin 4) {o7 : Fin 3 → ℕ} {o8 : Fin 2 → ℕ} {o9 : Fin 1 → ℕ}
    (e7 : o7 = ![n.val % 2, 0, 0]) (e8 : o8 = ![0, base i + 128 * n.val]) (e9 : o9 = ![n.val % 2]) {h7 h8 h9 hs hd}
    (Q : PUnit → sProp 𝕄) :
    iprop(nextI d i fI n.val ∗ owesT (F := F) d i O W ∗ Transfers.MayWaits (thr d i) (default : HIx 1) O)
      ⊢ iprop((iprop(owns (thr d i) (slotI n.val) fullShare ((blkI i n).view.read (Elt F) fI) ∗ ptI d i fI n
            ∗ semVal (thr d i, .dma (semI n.val)) 0 ∗ owesT (F := F) d i O W) -∗ Q ⟨⟩)
        -∗ wp frame (wpE (defs₀ (F := F)) 𝒱₀ (thr d i) none) Set.univ
            (Prog.lift (.waitDma2 (smI o9 h9) (bkI o8 h8) (slI o7 h7) hs hd)) Q) := by
  subst e7 e8 e9
  unfold nextI flyI
  rw [dif_pos n.isLt]
  exact copy_wait d i O W (blkI i n) (slotI n.val) (semI n.val) fullShare _ Q

/-- The trip's gather started, and waited for. -/
theorem gather_run (n : Fin 4) (hI : ∀ x, (fI x).toNat < 100000) {o10 o11 : Fin 3 → ℕ} (e10 : o10 = ![n.val % 2, 0, 0]) (e11 : o11 = ![n.val % 2, 0, 0])
    {h10 h10' h11 hp hn hsrc he hsp hr hs hd} {α : Type} (r : Prog (TpuEff nD τ sig (Elt F) Λ₀ (thr d i).2) α) (Q : α → sProp 𝕄) :
    iprop(owns (thr d i) (slotI n.val) fullShare ((blkI i n).view.read (Elt F) fI) ∗ semVal (thr d i, .dma (semI n.val)) 0
        ∗ freeO d i n.val ∗ ptT d i q fT ∗ semVal (thr d i, .dma semG) 0 ∗ owesT (F := F) d i O W
        ∗ Transfers.MayWaits (thr d i) (default : HIx 1) O)
      ⊢ iprop((iprop(freeI d i n.val ∗ owns (thr d i) (slotO n.val) fullShare ((blkO i n).view.read (Elt F) (gathered fT fI))
            ∗ semVal (thr d i, .dma (semO n.val)) 0 ∗ ptT d i q fT ∗ semVal (thr d i, .dma semG) 0 ∗ owesT (F := F) d i O W)
            -∗ wp frame (wpE (defs₀ (F := F)) 𝒱₀ (thr d i) none) Set.univ r Q)
        -∗ wp frame (wpE (defs₀ (F := F)) 𝒱₀ (thr d i) none) Set.univ
            (SparseCore.enqueueIndirectGather hp tabAll (slO o10 h10) gathers_S100000x128_S128x128
              (((slI o11 h11).slice (Rect.unit (s := S1x128) ![0, 0] S1x128.size inb_S1x128_S1x128_0_0) (fun _ => rfl)).squeeze S128 squeezes_S1x128_S128)
              hn semG hsrc he hsp hr >>= fun _ => SparseCore.waitIndirectGather semG tabAll (slO o10 h10') hs hd >>= fun _ => r) Q) := by
  subst e10 e11
  unfold freeO ptT
  iintro ⟨Hs, Hvi, ⟨Ho, Hvo⟩, Ht, Hv, HO, #Hmw⟩ Hk
  rw [wp_bind]
  iapply (gather_start d i n q fT fI hI _) $$ [Hs Ho Ht Hv]
  · iframe Hs Ho Ht Hv
  iintro Hf
  rw [wp_bind]
  iapply (gather_wait d i O W n q fT fI _) $$ [Hf HO]
  · iframe Hf HO Hmw
  iintro ⟨Ho, Ht, Hs, Hv, HO⟩
  iapply Hk
  unfold freeI
  iframe Ho Ht Hs Hv HO Hvi Hvo

/-- The write-back of the trip's block started. -/
theorem write_issue (n : Fin 4) {o12 : Fin 3 → ℕ} {o13 : Fin 2 → ℕ} {o14 : Fin 1 → ℕ}
    (e12 : o12 = ![n.val % 2, 0, 0]) (e13 : o13 = ![base i + 128 * n.val, 0]) (e14 : o14 = ![n.val % 2]) {h12 h13 h14 hs hd ht}
    (Q : PUnit → sProp 𝕄) :
    iprop(owns (thr d i) (slotO n.val) fullShare ((blkO i n).view.read (Elt F) (gathered fT fI))
        ∗ semVal (thr d i, .dma (semO n.val)) 0 ∗ restO d i fT fI f0 n.val)
      ⊢ iprop((iprop(flyO d i fT fI n ∗ midO d i fT fI f0 n.val) -∗ Q ⟨⟩)
        -∗ wp frame (wpE (defs₀ (F := F)) 𝒱₀ (thr d i) none) Set.univ
            (Prog.lift (.enqueueDma (slO o12 h12) (.here (p := (thr d i).2) (bkO o13 h13)) (.dma (smO o14 h14)) hs hd ht)) Q) := by
  subst e12 e13 e14
  rw [restO_take]
  unfold ptO
  iintro ⟨Hs, Hv, Hb, Hm⟩ Hk
  iapply (copy_start d i (slotO n.val) (blkO i n) (semO n.val) fullShare _ (by decide) Q) $$ [Hs Hv Hb]
  · iframe Hs Hv
    iexists _; iexact Hb
  iintro Hf
  iapply Hk
  unfold flyO
  iframe Hf Hm

/-- The write-back of the block before waited for, if there is one. -/
theorem write_wait (n : Fin 4) {c : Prop} [Decidable c] (hc : c ↔ 0 < n.val) {o15 : Fin 3 → ℕ} {o16 : Fin 2 → ℕ} {o17 : Fin 1 → ℕ}
    (e15 : 0 < n.val → o15 = ![(n.val - 1) % 2, 0, 0]) (e16 : 0 < n.val → o16 = ![base i + 128 * (n.val - 1), 0])
    (e17 : 0 < n.val → o17 = ![(n.val - 1) % 2]) {h15 : c → _} {h16 : c → _} {h17 : c → _}
    {hs : ∀ h : c, (slO o15 (h15 h)).view.WordExact} {hd : ∀ h : c, (bkO o16 (h16 h)).view.WordExact}
    (Q : PUnit → sProp 𝕄) :
    iprop(prevO d i fT fI n.val ∗ midO d i fT fI f0 n.val ∗ owesT (F := F) d i O W ∗ Transfers.MayWaits (thr d i) (default : HIx 1) O)
      ⊢ iprop((iprop(freeO d i (n.val + 1) ∗ restO d i fT fI f0 (n.val + 1) ∗ owesT (F := F) d i O W) -∗ Q ⟨⟩)
        -∗ wp frame (wpE (defs₀ (F := F)) 𝒱₀ (thr d i) none) Set.univ
            (if h : c then Prog.lift (.waitDma2 (smO o17 (h17 h)) (slO o15 (h15 h)) (bkO o16 (h16 h)) (hs h) (hd h)) else .ret ⟨⟩) Q) := by
  by_cases hn : 0 < n.val
  · obtain rfl := e15 hn
    obtain rfl := e16 hn
    obtain rfl := e17 hn
    have hn' : 0 < n.val ∧ n.val - 1 < 4 := ⟨hn, by omega⟩
    rw [dif_pos (hc.mpr hn), ← restO_put d i fT fI f0 n hn', show n.val + 1 = (n.val - 1) + 2 by omega, freeO_add_two]
    unfold prevO freeO flyO
    rw [dif_pos hn']
    iintro ⟨Hf, Hm, HO, Hmw⟩ Hk
    iapply (copy_wait d i O W (slotO (n.val - 1)) (blkO i ⟨n.val - 1, hn'.2⟩) (semO (n.val - 1)) fullShare _ Q) $$ [Hf HO Hmw]
    · iframe Hf HO Hmw
    iintro ⟨Hb, Hs, Hv, HO⟩
    iapply Hk
    unfold ptO
    rw [if_pos (by show n.val - 1 < n.val - 1 + 2; omega)]
    iframe Hv Hb Hm HO
    iexists _; iexact Hs
  · rw [dif_neg (fun h => hn (hc.mp h)), restO_zero d i fT fI f0 n hn]
    unfold prevO
    rw [dif_neg (fun h => hn h.1)]
    iintro ⟨Hf, Hm, HO, Hmw⟩ Hk
    sl_step
    iapply Hk
    iframe Hf Hm HO

/-! ## A trip, and the loop -/

/-- A conditional step followed by `r`: `r` once, after the step or after nothing. -/
theorem dite_seq {E : Type → Type} {β : Type} {c : Prop} [Decidable c] (f : c → Prog E PUnit) (r : Prog E β) :
    (if h : c then f h >>= (fun _ => r) else r) = (if h : c then f h else .ret ⟨⟩) >>= fun _ => r := by
  by_cases h : c
  · rw [dif_pos h, dif_pos h]
  · rw [dif_neg h, dif_neg h]; rfl

/-- The first block of the tile, as its body computes it. -/
abbrev blk0 : BitVec 32 :=
  Scalar.muli (Scalar.addi (Scalar.addi 0#32 (Scalar.muli (BitVec.ofNat 32 (i 1).val) 1#32)) (Scalar.muli (BitVec.ofNat 32 (i 0).val) 16#32)) 4#32

/-- What the tile holds at trip `n`, carrying `acc`: the fetch of block `n` and the write-back of block `n - 1` under way, the
    blocks before them done. -/
def Inv (n : ℕ) (acc : BitVec 32 × BitVec 32 × BitVec 32 × BitVec 32 × BitVec 32) : sProp 𝕄 :=
  iprop(⌜acc = car n⌝ ∗ nextI d i fI n ∗ freeI d i (n + 1) ∗ restI d i fI n ∗ freeO d i n ∗ prevO d i fT fI n ∗ restO d i fT fI f0 n
    ∗ ptT d i q fT ∗ semVal (thr d i, .dma semG) 0 ∗ owesT (F := F) d i O W ∗ Transfers.MayWaits (thr d i) (default : HIx 1) O)

/-- An assumed side condition that holds. -/
theorem assume_step {P : Prop} {dP : Decidable P} (h : P) (Q : PLift P → sProp 𝕄) :
    Q ⟨h⟩ ⊢ wp frame (wpE (defs₀ (F := F)) 𝒱₀ (thr d i) none) Set.univ (Prog.lift (.assume P dP)) Q := by
  iintro H
  iapply (wp_assume 𝒱₀ (thr d i) none Set.univ h)
  sl_step
  iexact H

set_option maxHeartbeats 4000000 in
/-- One trip's steps. -/
theorem trip_steps (hI : ∀ x, (fI x).toNat < 100000) (k : Fin k1_t1_loop.trips) (n : Fin 4) (hn : k.val = n.val)
    (Q : BitVec 32 × BitVec 32 × BitVec 32 × BitVec 32 × BitVec 32 → sProp 𝕄) :
    iprop(nextI d i fI n.val ∗ freeI d i (n.val + 1) ∗ restI d i fI n.val ∗ freeO d i n.val ∗ prevO d i fT fI n.val ∗ restO d i fT fI f0 n.val
        ∗ ptT d i q fT ∗ semVal (thr d i, .dma semG) 0 ∗ owesT (F := F) d i O W ∗ Transfers.MayWaits (thr d i) (default : HIx 1) O)
      ⊢ iprop((iprop(nextI d i fI (n.val + 1) ∗ freeI d i n.val ∗ restI d i fI (n.val + 1) ∗ freeO d i (n.val + 1) ∗ flyO d i fT fI n
            ∗ restO d i fT fI f0 (n.val + 1) ∗ ptT d i q fT ∗ semVal (thr d i, .dma semG) 0 ∗ owesT (F := F) d i O W) -∗ Q (car (k.val + 1)))
        -∗ wp frame (wpE (defs₀ (F := F)) 𝒱₀ (thr d i) none) Set.univ
      (k1_t1_body i tabV (Memref.isWhole_whole _) idxV (Memref.isWhole_whole _) outV (Memref.isWhole_whole _)
        bufI (Memref.isWhole_whole _) cc1_scoped1 bufO (Memref.isWhole_whole _) cc1_scoped3 cc1_scoped4 (blk0 i) k (car k.val)) Q) := by
  unfold k1_t1_body
  rw [show car k.val = (w6 k.val, w7 k.val, w7 k.val, w9 k.val, w10 k.val) from rfl]
  simp only [k1_part1_eq_skeleton, k1_part2_eq_skeleton]
  unfold k1_part1_skel k1_part2_skel
  simp only [dif_pos (cond2_true i k), dif_pos (cond5_true i k), ite_self, dite_seq]
  iintro ⟨Hn, Hf, Hr, Hfo, Hp, Hro, Ht, Hv, HO, #Hmw⟩ Hk
  rw [wp_bind, wp_bind]
  iapply (assume_step d i (chk3 k))
  rw [wp_bind]
  iapply (assume_step d i (chk2 k))
  rw [wp_bind]
  iapply (assume_step d i (chk1 i k))
  rw [wp_bind]
  iapply (fetch_issue d i fI n (hn ▸ cond1_iff i k) (hn ▸ off4_eq k) (hn ▸ off5_eq i k) (hn ▸ off6_eq k) _) $$ [Hf Hr]
  · iframe Hf Hr
  iintro ⟨Hn', Hm⟩
  sl_step
  rw [wp_bind, wp_bind]
  iapply (fetch_wait d i O W fI n (hn ▸ off7_eq k) (hn ▸ off8_eq i k) (hn ▸ off9_eq k) _) $$ [Hn HO]
  · iframe Hn HO Hmw
  iintro ⟨Hs, Hb, Hvi, HO⟩
  iapply (gather_run d i O W q fT fI n hI (hn ▸ off10_eq k) (hn ▸ off11_eq k) _ _) $$ [Hs Hvi Hfo Ht Hv HO]
  · iframe Hs Hvi Hfo Ht Hv HO Hmw
  iintro ⟨Hfi, Ho, Hvo, Ht, Hv, HO⟩
  sl_step
  rw [wp_bind]
  iapply (write_issue d i fT fI f0 n (hn ▸ off12_eq k) (hn ▸ off13_eq i k) (hn ▸ off14_eq k) _) $$ [Ho Hvo Hro]
  · iframe Ho Hvo Hro
  iintro ⟨Hfl, Hmo⟩
  rw [wp_bind]
  iapply (write_wait d i O W fT fI f0 n (hn ▸ cond7_iff i k) (hn ▸ off15_eq k) (hn ▸ off16_eq i k) (hn ▸ off17_eq k) _) $$ [Hp Hmo HO]
  · iframe Hp Hmo HO Hmw
  iintro ⟨Hfo, Hro, HO⟩
  sl_step
  rw [show ((_, _, _, _, _) : BitVec 32 × BitVec 32 × BitVec 32 × BitVec 32 × BitVec 32) = car (k.val + 1) from ?_]
  · iapply Hk
    rw [← restI_put]
    iframe Hn' Hfi Hb Hm Hfo Hfl Hro Ht Hv HO
  · clear hn; revert i k; decide +kernel

/-- One trip keeps the invariant. -/
theorem trip (hI : ∀ x, (fI x).toNat < 100000) (k : Fin k1_t1_loop.trips)
    (acc : BitVec 32 × BitVec 32 × BitVec 32 × BitVec 32 × BitVec 32) :
    Inv d i O W q fT fI f0 k.val acc ⊢ wp frame (wpE (defs₀ (F := F)) 𝒱₀ (thr d i) none) Set.univ
      (k1_t1_body i tabV (Memref.isWhole_whole _) idxV (Memref.isWhole_whole _) outV (Memref.isWhole_whole _)
        bufI (Memref.isWhole_whole _) cc1_scoped1 bufO (Memref.isWhole_whole _) cc1_scoped3 cc1_scoped4 (blk0 i) k acc)
      (Inv d i O W q fT fI f0 (k.val + 1)) := by
  have hk : k.val < 4 := trips_eq ▸ k.isLt
  unfold Inv
  iintro ⟨%hacc, Hn, Hf, Hr, Hfo, Hp, Hro, Ht, Hv, HO, #Hmw⟩
  subst hacc
  iapply (trip_steps d i O W q fT fI f0 hI k ⟨k.val, hk⟩ rfl _) $$ [Hn Hf Hr Hfo Hp Hro Ht Hv HO]
  · iframe Hn Hf Hr Hfo Hp Hro Ht Hv HO Hmw
  iintro ⟨Hn, Hf, Hr, Hfo, Hp, Hro, Ht, Hv, HO⟩
  rw [show prevO d i fT fI (k.val + 1) = flyO d i fT fI ⟨k.val, hk⟩ from by
      unfold prevO; rw [dif_pos ⟨Nat.succ_pos _, (by omega : k.val + 1 - 1 < 4)⟩]; rfl,
    show freeI d i (k.val + 1 + 1) = freeI d i k.val from freeI_add_two d i k.val]
  iframe Hn Hf Hr Hfo Hp Hro Ht Hv HO Hmw
  ipureintro; rfl

/-- The first fetch. -/
theorem fetch_first {o1 : Fin 3 → ℕ} {o2 : Fin 2 → ℕ} {o3 : Fin 1 → ℕ} (e1 : o1 = ![0, 0, 0]) (e2 : o2 = ![0, base i + 128 * 0]) (e3 : o3 = ![0])
    {h1 h2 h3 hs hd ht} (Q : PUnit → sProp 𝕄) :
    iprop(freeI d i 0 ∗ bigSep Finset.univ (ptI d i fI))
      ⊢ iprop((iprop(nextI d i fI 0 ∗ restI d i fI 0) -∗ Q ⟨⟩)
        -∗ wp frame (wpE (defs₀ (F := F)) 𝒱₀ (thr d i) none) Set.univ
            (Prog.lift (.enqueueDma (bkI o2 h2) (.here (p := (thr d i).2) (slI o1 h1)) (.dma (smI o3 h3)) hs hd ht)) Q) := by
  subst e1 e2 e3
  rw [show bigSep Finset.univ (ptI d i fI) = iprop(ptI d i fI 0 ∗ restI d i fI 0) from by
    unfold restI; rw [← bigSep_insert' (by decide)]; congr 1]
  unfold nextI freeI
  rw [dif_pos (by decide)]
  iintro ⟨⟨Hs, Hv⟩, Hb, Hm⟩ Hk
  iapply (copy_start d i (blkI i 0) (slotI 0) (semI 0) fullShare _ (by decide) Q) $$ [Hs Hv Hb]
  · unfold ptI; iframe Hs Hv Hb
  iintro Hf
  iapply Hk
  unfold flyI
  iframe Hf Hm

/-- The last write-back, waited for. -/
theorem write_last {o19 : Fin 2 → ℕ} {o20 : Fin 1 → ℕ} {o21 : Fin 3 → ℕ} (e19 : o19 = ![base i + 128 * 3, 0]) (e20 : o20 = ![3 % 2])
    (e21 : o21 = ![3 % 2, 0, 0]) {h19 h20 h21 hs hd} (Q : PUnit → sProp 𝕄) :
    iprop(prevO d i fT fI 4 ∗ restO d i fT fI f0 4 ∗ owesT (F := F) d i O W ∗ Transfers.MayWaits (thr d i) (default : HIx 1) O)
      ⊢ iprop((iprop(freeO d i 1 ∗ bigSep Finset.univ (ptO d i fT fI f0 4) ∗ owesT (F := F) d i O W) -∗ Q ⟨⟩)
        -∗ wp frame (wpE (defs₀ (F := F)) 𝒱₀ (thr d i) none) Set.univ
            (Prog.lift (.waitDma2 (smO o20 h20) (slO o21 h21) (bkO o19 h19) hs hd)) Q) := by
  subst e19 e20 e21
  rw [show bigSep Finset.univ (ptO d i fT fI f0 4) = iprop(ptO d i fT fI f0 4 3 ∗ restO d i fT fI f0 4) from by
    unfold restO; rw [← bigSep_insert' (by decide)]; congr 1; decide]
  unfold prevO freeO flyO
  rw [dif_pos (by decide)]
  iintro ⟨Hf, Hm, HO, Hmw⟩ Hk
  iapply (copy_wait d i O W (slotO 3) (blkO i 3) (semO 3) fullShare _ Q) $$ [Hf HO Hmw]
  · iframe Hf HO Hmw
  iintro ⟨Hb, Hs, Hv, HO⟩
  iapply Hk
  unfold ptO
  rw [if_pos (by decide)]
  iframe Hb Hm HO Hv
  iexists _; iexact Hs

/-- The tile's whole run: its four blocks of the list read, its four blocks of gathered rows written. -/
theorem tile_run (hI : ∀ x, (fI x).toNat < 100000) (Q : PUnit → sProp 𝕄) :
    iprop(bigSep Finset.univ (ptI d i fI) ∗ bigSep Finset.univ (ptO d i fT fI f0 0) ∗ ptT d i q fT
        ∗ (freeI d i 0 ∗ freeI d i 1) ∗ (freeO d i 0 ∗ freeO d i 1) ∗ semVal (thr d i, .dma semG) 0
        ∗ owesT (F := F) d i O W ∗ Transfers.MayWaits (thr d i) (default : HIx 1) O)
      ⊢ iprop((iprop(bigSep Finset.univ (ptI d i fI) ∗ bigSep Finset.univ (ptO d i fT fI f0 4) ∗ ptT d i q fT
        ∗ (freeI d i 0 ∗ freeI d i 1) ∗ (freeO d i 0 ∗ freeO d i 1) ∗ semVal (thr d i, .dma semG) 0 ∗ owesT (F := F) d i O W) -∗ Q ⟨⟩)
        -∗ wp frame (wpE (defs₀ (F := F)) 𝒱₀ (thr d i) none) Set.univ
          (cc1_k i tabV (Memref.isWhole_whole _) idxV (Memref.isWhole_whole _) outV (Memref.isWhole_whole _)
            bufI (Memref.isWhole_whole _) cc1_scoped1 bufO (Memref.isWhole_whole _) cc1_scoped3 cc1_scoped4) Q) := by
  rw [cc1_k_eq_skeleton]
  unfold cc1_k_skel
  simp only [k1_part3_eq_skeleton, k1_part4_eq_skeleton]
  unfold k1_part3_skel k1_part4_skel
  dsimp only
  iintro ⟨HI, Ho, Ht, ⟨Hi0, Hi1⟩, ⟨Ho0, Ho1⟩, Hv, HO, #Hmw⟩ Hk
  rw [wp_bind, wp_bind]
  iapply (fetch_first d i fI k1_off1_eq (off2_eq i) k1_off3_eq _) $$ [Hi0 HI]
  · iframe Hi0 HI
  iintro ⟨Hn, Hr⟩
  sl_step
  rw [wp_bind]
  iapply (Scf.wp_for_bind frame _ Set.univ _ _ _ _ _ _ (Inv d i O W q fT fI f0) (trip d i O W q fT fI f0 hI)) $$ [Hn Hi1 Hr Ho0 Ho1 Ho Ht Hv HO]
  · unfold Inv
    rw [show restO d i fT fI f0 0 = bigSep Finset.univ (ptO d i fT fI f0 0) from by unfold restO; congr 1]
    rw [show prevO d i fT fI 0 = freeO d i 1 from dif_neg (by decide)]
    iframe Hn Hi1 Hr Ho0 Ho1 Ho Ht Hv HO Hmw
    ipureintro; rfl
  iintro %acc H
  rw [show Scf.trips k1_t1_loop.lb k1_t1_loop.ub k1_t1_loop.st = 4 from trips_eq]
  unfold Inv
  icases H with ⟨%hacc, Hn, Hf, Hr, Hfo, Hp, Hro, Ht, Hv, HO, -⟩
  subst hacc
  unfold car
  dsimp only
  rw [wp_bind]
  iapply (assume_step d i (chk5 i))
  rw [wp_bind]
  iapply (assume_step d i chk4)
  sl_step
  rw [wp_bind]
  iapply (write_last d i O W fT fI f0 (off19_eq i) off20_eq off21_eq _) $$ [Hp Hro HO]
  · iframe Hp Hro HO Hmw
  iintro ⟨Ho1, Ho, HO⟩
  ihave Hn := (Entails.of_eq (show nextI d i fI 4 = freeI d i 0 from (dif_neg (by decide)).trans ((freeI_add_two d i 2).trans (freeI_add_two d i 0)))) $$ Hn
  ihave Hf := (Entails.of_eq (show freeI (F := F) d i (4 + 1) = freeI d i 1 from (freeI_add_two d i 3).trans (freeI_add_two d i 1))) $$ Hf
  ihave Hfo := (Entails.of_eq (show freeO (F := F) d i 4 = freeO d i 0 from (freeO_add_two d i 2).trans (freeO_add_two d i 0))) $$ Hfo
  ihave Hr := (Entails.of_eq (show restI d i fI 4 = bigSep Finset.univ (ptI d i fI) from by unfold restI; congr 1)) $$ Hr
  sl_step
  iapply Hk
  iframe Hr Ho Ht Hn Hf Hfo Ho1 Hv HO

end Cert.Proof.Tile
end
-- ==== Proof.Task.lean ====
/-
  The gather as the launch theorem asks for it: what the call hands a tile and takes back, the tile's obligation from
  its own buffers and semaphores, and the split of the call's operands over the tiles.
-/
module

public import proofs.«01_k».proof.Proof.Tile

@[expose] public section

noncomputable section

namespace Cert.Proof.Task

open Cert.KernelIdeal Cert.KernelIdeal.Gen Cert.Proof.Words Cert.Proof.Setup Cert.Proof.Steps Cert.Proof.Tile

open Idealize.ShloMosaic
open Idealize.ShloMosaic.SparseCore (S V T bigSep_insert' bigSep_sdiff_split')
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks)

variable {F : FTy → Type} [FloatOps F]

local notation "𝕄" => MM F

section Own

variable (d : Dev nD) (i : grid1.Coords)

/-! ## The tile's semaphores and buffers -/

/-- The semaphores of the call: two of each window and the gather's. -/
def semNo : Fin 5 → SemLoc sig := ![.dma (semI 0), .dma (semI 1), .dma (semO 0), .dma (semO 1), .dma semG]

/-- The tile's counters are different. -/
theorem semNo_inj : Function.Injective semNo := by decide
/-- The tile's counters are its task's own. -/
theorem semNo_scoped : ∀ k, (semNo k).isScoped .scVector = true := by decide

/-- They are cells of the tile. -/
def semCell : Fin 5 ↪ GSem nD τ sig := ⟨fun k => (thr d i, semNo k), fun _ _ h => semNo_inj (Prod.ext_iff.mp h).2⟩

/-- The tile's counters are among those its thread owns. -/
theorem semCell_sub : Finset.univ.map (semCell d i) ⊆ ownCells (thr d i) := by
  intro g hg
  obtain ⟨k, -, rfl⟩ := Finset.mem_map.mp hg
  exact mem_ownCells.mpr ⟨rfl, semNo_scoped k⟩

/-- The tile's semaphores at zero: the call's five and the rest. -/
theorem sems_eq : (ownSems0 (thr d i) : sProp 𝕄)
    = iprop((semVal (thr d i, .dma (semI 0)) 0 ∗ semVal (thr d i, .dma (semI 1)) 0 ∗ semVal (thr d i, .dma (semO 0)) 0
        ∗ semVal (thr d i, .dma (semO 1)) 0 ∗ semVal (thr d i, .dma semG) 0)
      ∗ bigSep (ownCells (thr d i) \ Finset.univ.map (semCell d i)) fun g => semVal g 0) := by
  unfold SparseCore.Cfg.ownSems0
  rw [bigSep_sdiff_split' (semCell_sub d i), bigSep_map, bigSep_univ_eq_bigSepL [0, 1, 2, 3, 4] (by decide) (by decide)]
  rfl

/-- The two windows' buffers. -/
def refNo : Fin 2 → Ref sig .scVector := ![cc1_scoped0, cc1_scoped2]

/-- The tile's buffers are different. -/
theorem refNo_inj : Function.Injective refNo := by decide

/-- They are buffers of the tile. -/
def refCell : Fin 2 ↪ DevRef τ sig := ⟨fun k => (Proc.scVector (cV i) (jV i)).devRef (refNo k), fun _ _ h => refNo_inj (Proc.devRef_injective _ h)⟩

/-- The tile's buffers are among those its thread owns. -/
theorem refCell_sub : Finset.univ.map (refCell i) ⊆ ownRefs (τ := τ) (sig := sig) (.scVector (cV i) (jV i)) := by
  intro b hb
  obtain ⟨k, -, rfl⟩ := Finset.mem_map.mp hb
  exact SparseCore.Cfg.mem_ownRefs_of_owner (p := Proc.scVector (cV i) (jV i)) (b := (Proc.scVector (cV i) (jV i)).devRef (refNo k))
    (by clear hb; match k with | 0 => rfl | 1 => rfl)

/-- The tile's buffers: the two windows' and the rest. -/
theorem bufs_eq : (ownBufs (thr d i) : sProp 𝕄)
    = iprop(((∃ f, (thr d i).loc cc1_scoped0 ↦{fullShare} f) ∗ (∃ f, (thr d i).loc cc1_scoped2 ↦{fullShare} f))
      ∗ bigSep (ownRefs (τ := τ) (.scVector (cV i) (jV i)) \ Finset.univ.map (refCell i)) fun b => iprop(∃ f, ((d, b) : Loc nD τ sig) ↦{fullShare} f)) := by
  unfold SparseCore.Cfg.ownBufs
  rw [show (thr d i).2 = Proc.scVector (cV i) (jV i) from rfl, bigSep_sdiff_split' (refCell_sub i), bigSep_map,
    bigSep_univ_eq_bigSepL [0, 1] (by decide) (by decide)]
  rfl

/-- The elements of a slot of the index window. -/
theorem mem_slotI (n : ℕ) (x : S2x1x128.Idx) : x ∈ (slotI n).view.set ↔ (x 0).val = n % 2 := by
  have e : (slotI n).view.set = (Rect.unit (s := S2x1x128) ![n % 2, 0, 0] S1x1x128.size (inb_slotI n)).set :=
    (View.set_reshape _ _).trans ((View.set_slice _ _).trans Finset.map_refl)
  rw [e]
  refine Rect.mem_set_unit.trans ?_
  have h1 : (x 1).val < 1 := (x 1).isLt
  have h2 : (x 2).val < 128 := (x 2).isLt
  constructor
  · intro h
    have := h 0
    change n % 2 ≤ (x 0).val ∧ (x 0).val < n % 2 + 1 at this
    omega
  · intro h a
    match a with
    | 0 => show n % 2 ≤ (x 0).val ∧ (x 0).val < n % 2 + 1; omega
    | 1 => show 0 ≤ (x 1).val ∧ (x 1).val < 0 + 1; omega
    | 2 => show 0 ≤ (x 2).val ∧ (x 2).val < 0 + 128; omega

/-- The elements of a slot of the row window. -/
theorem mem_slotO (n : ℕ) (x : S2x128x128.Idx) : x ∈ (slotO n).view.set ↔ (x 0).val = n % 2 := by
  have e : (slotO n).view.set = (Rect.unit (s := S2x128x128) ![n % 2, 0, 0] S1x128x128.size (inb_slotO n)).set :=
    (View.set_reshape _ _).trans ((View.set_slice _ _).trans Finset.map_refl)
  rw [e]
  refine Rect.mem_set_unit.trans ?_
  have h1 : (x 1).val < 128 := (x 1).isLt
  have h2 : (x 2).val < 128 := (x 2).isLt
  constructor
  · intro h
    have := h 0
    change n % 2 ≤ (x 0).val ∧ (x 0).val < n % 2 + 1 at this
    omega
  · intro h a
    match a with
    | 0 => show n % 2 ≤ (x 0).val ∧ (x 0).val < n % 2 + 1; omega
    | 1 => show 0 ≤ (x 1).val ∧ (x 1).val < 0 + 128; omega
    | 2 => show 0 ≤ (x 2).val ∧ (x 2).val < 0 + 128; omega

/-- A buffer at unknown contents is its two halves so, when a coordinate tells the halves apart. -/
theorem halves_split {ℓ : Loc nD τ sig} {A B : Finset (Idx ℓ)} (hd : Disjoint A B) (hu : A ∪ B = Finset.univ) :
    (iprop(∃ f, ℓ ↦{fullShare} f) : sProp 𝕄) ⊢ iprop((∃ f, ℓ ↦[A]{fullShare} f) ∗ (∃ f, ℓ ↦[B]{fullShare} f)) := by
  iintro ⟨%f, H⟩
  ihave H := (Entails.of_eq (show (ℓ ↦{fullShare} f : sProp 𝕄) = ℓ ↦[A ∪ B]{fullShare} f by rw [hu])) $$ H
  ihave H := (pointsTo_union hd).1 $$ H
  icases H with ⟨HA, HB⟩
  isplitl [HA]
  · iexists f; iexact HA
  · iexists f; iexact HB
/-- Two halves that make up an array are the array. -/
theorem halves_join {ℓ : Loc nD τ sig} {A B : Finset (Idx ℓ)} (hd : Disjoint A B) (hu : A ∪ B = Finset.univ) :
    (iprop((∃ f, ℓ ↦[A]{fullShare} f) ∗ (∃ f, ℓ ↦[B]{fullShare} f)) : sProp 𝕄) ⊢ iprop(∃ f, ℓ ↦{fullShare} f) := by
  iintro ⟨⟨%f, HA⟩, ⟨%g, HB⟩⟩
  ihave H := (pointsTo_join hd) $$ [HA HB]
  · isplitl [HA]; · iexact HA
    iexact HB
  iexists _
  rw [← hu]
  iexact H

/-- A memref at some contents is its elements at some valuation. -/
theorem owns_some {c : Thread nD τ} {sp : Space} {sh : Shape} {e : EltTy} (m : Memref sig c.2.kind sp sh e) :
    (iprop(∃ Y, owns c m fullShare Y) : sProp 𝕄) = iprop(∃ f, m.view.loc c ↦[m.view.set]{fullShare} f) := by
  have h : (iprop(∃ Y, owns c m fullShare Y) : sProp 𝕄) ⊢ iprop(∃ f, m.view.loc c ↦[m.view.set]{fullShare} f) := ?_
  have h' : (iprop(∃ f, m.view.loc c ↦[m.view.set]{fullShare} f) : sProp 𝕄) ⊢ iprop(∃ Y, owns c m fullShare Y) := ?_
  · exact BI.Entails.antisymm h h'
  · iintro ⟨%f, H⟩
    iexists _
    iapply (owns_intro c m fullShare f) $$ H
  · unfold owns
    iintro ⟨%Y, %f, -, H⟩
    iexists f; iexact H

/-- The two slots of windows do not meet. -/
theorem slots_I_disj : Disjoint (slotI 0).view.set (slotI 1).view.set :=
  Finset.disjoint_left.mpr fun x h0 h1 => by rw [mem_slotI] at h0 h1; omega
/-- The two slots of blocks do not meet. -/
theorem slots_O_disj : Disjoint (slotO 0).view.set (slotO 1).view.set :=
  Finset.disjoint_left.mpr fun x h0 h1 => by rw [mem_slotO] at h0 h1; omega
/-- The two slots make up the buffer of windows. -/
theorem slots_I_all : (slotI 0).view.set ∪ (slotI 1).view.set = Finset.univ :=
  Finset.eq_univ_of_forall fun x => by
    rw [Finset.mem_union, mem_slotI, mem_slotI]; have : (x 0).val < 2 := (x 0).isLt; omega
/-- The two slots make up the buffer of blocks. -/
theorem slots_O_all : (slotO 0).view.set ∪ (slotO 1).view.set = Finset.univ :=
  Finset.eq_univ_of_forall fun x => by
    rw [Finset.mem_union, mem_slotO, mem_slotO]; have : (x 0).val < 2 := (x 0).isLt; omega

/-- The index window's buffer as its two slots, and back. -/
theorem bufI_split : (iprop(∃ f, (thr d i).loc cc1_scoped0 ↦{fullShare} f) : sProp 𝕄)
    ⊢ iprop((∃ Y, owns (thr d i) (slotI 0) fullShare Y) ∗ (∃ Y, owns (thr d i) (slotI 1) fullShare Y)) := by
  rw [owns_some, owns_some]; exact halves_split slots_I_disj slots_I_all
/-- The two slots of windows join to the buffer. -/
theorem bufI_join : (iprop((∃ Y, owns (thr d i) (slotI 0) fullShare Y) ∗ (∃ Y, owns (thr d i) (slotI 1) fullShare Y)) : sProp 𝕄)
    ⊢ iprop(∃ f, (thr d i).loc cc1_scoped0 ↦{fullShare} f) := by
  rw [owns_some, owns_some]; exact halves_join slots_I_disj slots_I_all
/-- The row window's buffer as its two slots, and back. -/
theorem bufO_split : (iprop(∃ f, (thr d i).loc cc1_scoped2 ↦{fullShare} f) : sProp 𝕄)
    ⊢ iprop((∃ Y, owns (thr d i) (slotO 0) fullShare Y) ∗ (∃ Y, owns (thr d i) (slotO 1) fullShare Y)) := by
  rw [owns_some, owns_some]; exact halves_split slots_O_disj slots_O_all
/-- The two slots of blocks join to the buffer. -/
theorem bufO_join : (iprop((∃ Y, owns (thr d i) (slotO 0) fullShare Y) ∗ (∃ Y, owns (thr d i) (slotO 1) fullShare Y)) : sProp 𝕄)
    ⊢ iprop(∃ f, (thr d i).loc cc1_scoped2 ↦{fullShare} f) := by
  rw [owns_some, owns_some]; exact halves_join slots_O_disj slots_O_all

/-! ## The task -/

variable (q : PosShare TreeShare)
variable (fT : S100000x128.Idx → Elt F .f32) (fI : S1x16384.Idx → Elt F .i32) (f0 : S16384x128.Idx → Elt F .f32)

/-- A tile's operands after `n` blocks: its blocks of the index list, its blocks of the gathered rows, its share of
    the table. -/
def tileRes (n : ℕ) : sProp 𝕄 :=
  iprop(bigSep Finset.univ (ptI d i fI) ∗ bigSep Finset.univ (ptO d i fT fI f0 n) ∗ ptT d i q fT)

/-- The task on one tile. -/
theorem tile_body (hF : (K (F := F)).Facts) (hI : ∀ x, (fI x).toNat < 100000) (O : CellTallies nD τ sig (HIx 1)) (W : Waits sig (HIx 1))
    (hO : ∀ g, O g none = 0) :
    iprop(levAts (K (F := F)).L (K (F := F)).lev ∗ emp ∗ tileRes d i q fT fI f0 0
        ∗ scopedBufs (thr d i) ∗ scopedSems0 (thr d i) ∗ owes (thr d i) O W)
      ⊢ wp frame (wpE (defs₀ (F := F)) 𝒱₀ (thr d i) none) Set.univ
          (cc1_k i tabV (Memref.isWhole_whole _) idxV (Memref.isWhole_whole _) outV (Memref.isWhole_whole _)
            bufI (Memref.isWhole_whole _) cc1_scoped1 bufO (Memref.isWhole_whole _) cc1_scoped3 cc1_scoped4)
          fun _ => iprop(tileRes d i q fT fI f0 4 ∗ scopedBufs (thr d i) ∗ scopedSems0 (thr d i)
            ∗ ∃ W', ⌜∀ p ∈ W', p ∈ W ∨ p.2 = none⌝ ∗ owes (thr d i) O W') := by
  rw [(K (F := F)).scopedBufs_V hF d (cV i) (jV i), SparseCore.Cfg.scopedSems0_V (Val := Elt F) d (cV i) (jV i), sems_eq, bufs_eq]
  unfold tileRes
  iintro ⟨#Hlv, -, ⟨HI, Ho, Ht⟩, ⟨⟨HbI, HbO⟩, Hbufs⟩, ⟨⟨HI0, HI1, HO0, HO1, HG⟩, Hsems⟩, HO⟩
  ihave Hmw := (show levAts (K (F := F)).L (K (F := F)).lev ⊢ Transfers.MayWaits (thr d i) (default : HIx 1) O from
    (K (F := F)).mayWaits_none (thr := thr d i) hO) $$ Hlv
  ihave HbI := (bufI_split d i) $$ HbI
  ihave HbO := (bufO_split d i) $$ HbO
  icases HbI with ⟨HbI0, HbI1⟩
  icases HbO with ⟨HbO0, HbO1⟩
  iapply (tile_run d i O W q fT fI f0 hI _) $$ [HI Ho Ht HbI0 HbI1 HbO0 HbO1 HI0 HI1 HO0 HO1 HG HO Hmw]
  · unfold freeI freeO owesT
    iframe HI Ho Ht HbI0 HbI1 HbO0 HbO1 HI0 HI1 HO0 HO1 HG Hmw
    iexists W; isplitr
    · ipureintro; exact fun _ h => .inl h
    · iexact HO
  unfold freeI freeO owesT
  iintro ⟨HI, Ho, Ht, ⟨⟨HbI0, HI0⟩, HbI1, HI1⟩, ⟨⟨HbO0, HO0⟩, HbO1, HO1⟩, HG, HO⟩
  iframe HI Ho Ht Hbufs Hsems HI0 HI1 HO0 HO1 HG HO
  isplitl [HbI0 HbI1]
  · iapply (bufI_join d i); iframe HbI0 HbI1
  · iapply (bufO_join d i); iframe HbO0 HbO1

end Own

/-! ## What the handshakes carry -/

/-- The tile of a core and a subcore. -/
def tile (c : Fin 2) (s : Fin 16) : grid1.Coords :=
  fun | 0 => c | 1 => s | ⟨_ + 2, h⟩ => absurd h (Nat.not_lt.2 (Nat.le_add_left _ _))

/-- A core's share of the table, and a tile's of its core's. -/
def qC (c : Fin 2) : PosShare TreeShare := shareTok fullShare 2 c
/-- A tile's share of the table. -/
def qT (c : Fin 2) (s : Fin 16) : PosShare TreeShare := shareTok (qC c) 16 s

abbrev tabLoc (d : Dev nD) : Loc nD τ sig := (SparseCore.T d).loc main_v3

section Payload

variable (fT : Dev nD → S100000x128.Idx → Elt F .f32) (fI : Dev nD → S1x16384.Idx → Elt F .i32) (f0 : Dev nD → S16384x128.Idx → Elt F .f32)

/-- A core's operands after its tiles wrote `n` blocks each. -/
def coreRes (d : Dev nD) (c : Fin 2) (n : ℕ) : sProp 𝕄 :=
  iprop((bigSep Finset.univ fun s : Fin 16 => bigSep Finset.univ (ptI d (tile c s) (fI d)))
    ∗ (bigSep Finset.univ fun s : Fin 16 => bigSep Finset.univ (ptO d (tile c s) (fT d) (fI d) (f0 d) n))
    ∗ (tabLoc d ↦{qC c} fT d))

/-- The call takes a core's operands and brings them back with the rows gathered; a tile is handed its part of them. -/
def P : (K (F := F)).Pay (nD := nD) (Val := Elt F) (Name := ℕ) (U := UU) where
  st := fun q d c => match q with | 0 => coreRes fT fI f0 d c 0
  dn := fun q d c => match q with | 0 => coreRes fT fI f0 d c 4
  go := fun q d c s => match q with | 0 => tileRes d (tile c s) (qT c s) (fT d) (fI d) (f0 d) 0
  td := fun q d c s => match q with | 0 => tileRes d (tile c s) (qT c s) (fT d) (fI d) (f0 d) 4
  x := fun _ _ => iprop(emp)

/-- A window of the index list may be carried by a handshake. -/
theorem storable_ptI (d : Dev nD) (i : grid1.Coords) (fI : S1x16384.Idx → Elt F .i32) (b : Fin 4) :
    BI.Storable (upEmb : UEmb _ 𝕄) (ptI d i fI b) := by
  unfold ptI; rw [owns_read (c := thr d i)]; infer_instance
/-- A block of the output may be carried by a handshake. -/
theorem storable_ptO (d : Dev nD) (i : grid1.Coords) (fT : S100000x128.Idx → Elt F .f32) (fI : S1x16384.Idx → Elt F .i32)
    (f0 : S16384x128.Idx → Elt F .f32) (n : ℕ) (b : Fin 4) :
    BI.Storable (upEmb : UEmb _ 𝕄) (ptO d i fT fI f0 n b) := by
  unfold ptO; rw [owns_read (c := thr d i)]; infer_instance
/-- A share of the table may be carried by a handshake. -/
theorem storable_ptT (d : Dev nD) (i : grid1.Coords) (q : PosShare TreeShare) (fT : S100000x128.Idx → Elt F .f32) :
    BI.Storable (upEmb : UEmb _ 𝕄) (ptT d i q fT) := by
  unfold ptT; rw [owns_read (c := thr d i)]; infer_instance

attribute [local instance] storable_ptI storable_ptO storable_ptT

/-- What a SparseCore is handed may be carried by a handshake. -/
instance storable_coreRes (d : Dev nD) (c : Fin 2) (n : ℕ) : BI.Storable (upEmb : UEmb _ 𝕄) (coreRes fT fI f0 d c n) := by
  unfold coreRes; infer_instance
/-- What a tile is handed may be carried by a handshake. -/
instance storable_tileRes (d : Dev nD) (i : grid1.Coords) (q : PosShare TreeShare) (fT : S100000x128.Idx → Elt F .f32)
    (fI : S1x16384.Idx → Elt F .i32) (f0 : S16384x128.Idx → Elt F .f32) (n : ℕ) :
    BI.Storable (upEmb : UEmb _ 𝕄) (tileRes d i q fT fI f0 n) := by
  unfold tileRes; infer_instance

/-- What the handshakes carry may be carried. -/
instance P_storable : (P (F := F) fT fI f0).IsStorable where
  st q d c := match q with | 0 => storable_coreRes fT fI f0 d c 0
  dn q d c := match q with | 0 => storable_coreRes fT fI f0 d c 4
  go q d c s := match q with | 0 => storable_tileRes d (tile c s) (qT c s) (fT d) (fI d) (f0 d) 0
  td q d c s := match q with | 0 => storable_tileRes d (tile c s) (qT c s) (fT d) (fI d) (f0 d) 4

/-! ## The obligation -/

/-- What the program runs on a vector subcore for the call. -/
theorem defs₀_vector (c : Fin τ.nSC) (s : Fin τ.nSub) :
    defs₀ (F := F) (.scVector c s) 1 ()
      = SparseCore.onTile hcore1 hsub1 (fun c s => cc1_k (tile c s)
          tabV (Memref.isWhole_whole _) idxV (Memref.isWhole_whole _) outV (Memref.isWhole_whole _)
            bufI (Memref.isWhole_whole _) cc1_scoped1 bufO (Memref.isWhole_whole _) cc1_scoped3 cc1_scoped4) ⟨⟩ c s := rfl

/-- Every wait of a task is one of its own. -/
theorem task_post {t : Thread nD τ} {A B C : sProp 𝕄} {O : CellTallies nD τ sig (HIx 1)} {W : Waits sig (HIx 1)} {φ : HIx 1 → Prop} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ φ p.2⌝ ∗ owes t O W') := by
  iintro ⟨HA, HB, HC, %W', %hW', HO⟩
  iframe HA HB HC
  iexists W'
  iframe HO
  ipureintro; exact fun p hp => (hW' p hp).imp_right Or.inl

set_option maxRecDepth 16384 in
/-- The tile's obligation. -/
theorem tileObl (hF : (K (F := F)).Facts) (hI : ∀ d x, (fI d x).toNat < 100000) : (K (F := F)).TileObl (D (F := F)) 𝒱 (P fT fI f0) v₀ 0 := by
  intro d c s O W hO _ _
  simp only [show (P fT fI f0).ox = fun _ _ => 0 from rfl, add_zero]
  have hcs : ((K (F := F)).core 0 c).val < grid1.bound 0 ∧ ((K (F := F)).sub 0 s).val < grid1.bound 1 := ⟨c.isLt, s.isLt⟩
  change _ ⊢ wp _ _ _ (Pipeline.liftProg (defs₀ (F := F) (.scVector ((K (F := F)).core 0 c) ((K (F := F)).sub 0 s)) 1 ())) _
  refine BI.Entails.trans ?_ (Pipeline.wp_liftProg (D (F := F)) (Pipeline.defs_kernel pcfgs defs₀) 𝒱₀ _ Set.univ none _ _)
  rw [defs₀_vector]; simp only [SparseCore.onTile, hcs, and_self, ↓reduceDIte]
  exact (tile_body d (tile ⟨_, hcs.1⟩ ⟨_, hcs.2⟩) (qT c s) (fT d) (fI d) (f0 d) hF (hI d) O W hO).trans (wp_mono frame _ _ fun _ => task_post)

/-! ## The split of a core's operands over its tiles -/

/-- The whole table's places are all of them. -/
theorem set_tabAll : tabAll.view.set = (Finset.univ : Finset S100000x128.Idx) := by
  show ((View.whole main_v3_scv).slice (Rect.unit (s := S100000x128) ![0, 0] S100000x128.size inb_S100000x128_S100000x128_0_0)).set = _
  rw [View.set_slice]
  refine (show _ = (Rect.unit (s := S100000x128) ![0, 0] S100000x128.size inb_S100000x128_S100000x128_0_0).set from Finset.map_refl).trans ?_
  refine Finset.eq_univ_of_forall fun x => Rect.mem_set_unit.mpr fun a => ?_
  match a with
  | 0 => exact ⟨Nat.zero_le _, (Nat.zero_add _).symm ▸ (x 0).isLt⟩
  | 1 => exact ⟨Nat.zero_le _, (Nat.zero_add _).symm ▸ (x 1).isLt⟩

/-- A tile's share of the table is the table's array at that share. -/
theorem ptT_eq (d : Dev nD) (i : grid1.Coords) (q : PosShare TreeShare) (f : S100000x128.Idx → Elt F .f32) :
    (ptT d i q f : sProp 𝕄) = (tabLoc d ↦{q} f) := by
  unfold ptT
  refine (owns_read (c := thr d i) tabAll q f).trans ?_
  rw [set_tabAll]

/-- A sum over the call's tiles of a core. -/
theorem over_tiles (Φ : Fin 16 → sProp 𝕄) : (bigSep Finset.univ fun s : Fin ((K (F := F)).nSub 0) => Φ s) = bigSep Finset.univ Φ := rfl

/-- A core's operands are its tiles'. -/
theorem vecSplit : (K (F := F)).VecSplit' (P fT fI f0) 0 := by
  intro d c
  show coreRes fT fI f0 d c 0 ⊢ |={Set.univ}=> iprop(
      (bigSep Finset.univ fun s : Fin 16 => tileRes d (tile c s) (qT c s) (fT d) (fI d) (f0 d) 0)
      ∗ ((bigSep Finset.univ fun s : Fin 16 => tileRes d (tile c s) (qT c s) (fT d) (fI d) (f0 d) 4) -∗ coreRes fT fI f0 d c 4))
  unfold tileRes coreRes
  simp only [ptT_eq, bigSep_sep', qT]
  iintro ⟨HI, HO, HT⟩
  imodintro
  ihave HT := (pointsTo_toks (qC c) 16).1 $$ HT
  icases HT with ⟨Hr, HT⟩
  isplitl [HI HO HT]
  · isplitl [HI]; · iexact HI
    isplitl [HO]; · iexact HO
    iexact HT
  iintro ⟨HI, HO, HT⟩
  isplitl [HI]; · iexact HI
  isplitl [HO]; · iexact HO
  iapply (pointsTo_toks (qC c) 16).2
  isplitl [Hr]; · iexact Hr
  iexact HT

end Payload

end Cert.Proof.Task

end
-- ==== Proof.Operands.lean ====
/-
  The operands of the SparseCore call, cut and joined: the index list and the gathered rows are the two cores' sixteen
  tiles' four blocks each; the table goes out as one read share to a core, what is left of it kept aside.
-/
module

public import proofs.«01_k».proof.Proof.Task

@[expose] public section

noncomputable section

namespace Cert.Proof.Operands

open Cert.KernelIdeal Cert.KernelIdeal.Gen Cert.Proof.Words Cert.Proof.Setup Cert.Proof.Steps Cert.Proof.Tile Cert.Proof.Task

open Idealize.ShloMosaic
open Idealize.ShloMosaic.ValueIdx (ix1 ix2 eq_ix1 eq_ix2)
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MM F

/-- A block of a tile of a core. -/
abbrev Blk : Type := Fin 2 × Fin 16 × Fin 4

/-- A tile's first row, by SparseCore and tile. -/
theorem base_tile (c : Fin 2) (s : Fin 16) : base (tile c s) = 512 * s.val + 8192 * c.val := rfl

/-- The first place of a block. -/
def start (p : Blk) : ℕ := 512 * p.2.1.val + 8192 * p.1.val + 128 * p.2.2.val

/-- The rows of two different blocks do not meet. -/
theorem start_inj {p p' : Blk} (h : p ≠ p') : start p + 128 ≤ start p' ∨ start p' + 128 ≤ start p := by
  obtain ⟨c, s, b⟩ := p; obtain ⟨c', s', b'⟩ := p'
  have := c.isLt; have := s.isLt; have := b.isLt; have := c'.isLt; have := s'.isLt; have := b'.isLt
  unfold start; dsimp only
  by_contra hn
  refine h ?_
  have hc : c = c' := Fin.ext (by omega)
  have hs : s = s' := Fin.ext (by omega)
  have hb : b = b' := Fin.ext (by omega)
  rw [hc, hs, hb]

/-- Every place lies in one. -/
theorem start_cover (r : ℕ) (h : r < 16384) : ∃ p : Blk, start p ≤ r ∧ r < start p + 128 :=
  ⟨(⟨r / 8192, by omega⟩, ⟨r % 8192 / 512, by omega⟩, ⟨r % 512 / 128, by omega⟩), by unfold start; dsimp only; omega⟩

/-- The elements of a block of the index list, and of the gathered rows. -/
def setI (p : Blk) : Finset S1x16384.Idx := (blkI (tile p.1 p.2.1) p.2.2).view.set
/-- The places of a block in the output. -/
def setO (p : Blk) : Finset S16384x128.Idx := (blkO (tile p.1 p.2.1) p.2.2).view.set

/-- A place is in a window when its column is. -/
theorem mem_setI (p : Blk) (x : S1x16384.Idx) : x ∈ setI p ↔ start p ≤ (x 1).val ∧ (x 1).val < start p + 128 := by
  have e : setI p = (Rect.unit (s := S1x16384) ![0, base (tile p.1 p.2.1) + 128 * p.2.2.val] S1x128.size (inb_blkI (tile p.1 p.2.1) p.2.2)).set :=
    (View.set_slice _ _).trans Finset.map_refl
  rw [e]
  refine Rect.mem_set_unit.trans ?_
  have h0 : (x 0).val < 1 := (x 0).isLt
  constructor
  · intro h; exact h 1
  · intro h a
    match a with
    | 0 => show 0 ≤ (x 0).val ∧ (x 0).val < 0 + 1; omega
    | 1 => exact h

/-- A place is in a block when its row is. -/
theorem mem_setO (p : Blk) (x : S16384x128.Idx) : x ∈ setO p ↔ start p ≤ (x 0).val ∧ (x 0).val < start p + 128 := by
  have e : setO p = (Rect.unit (s := S16384x128) ![base (tile p.1 p.2.1) + 128 * p.2.2.val, 0] S128x128.size (inb_blkO (tile p.1 p.2.1) p.2.2)).set :=
    (View.set_slice _ _).trans Finset.map_refl
  rw [e]
  refine Rect.mem_set_unit.trans ?_
  have h1 : (x 1).val < 128 := (x 1).isLt
  constructor
  · intro h; exact h 0
  · intro h a
    match a with
    | 0 => exact h
    | 1 => show 0 ≤ (x 1).val ∧ (x 1).val < 0 + 128; omega

/-- Two different windows do not meet. -/
theorem disj_setI (p p' : Blk) (h : p ≠ p') : Disjoint (setI p) (setI p') :=
  Finset.disjoint_left.mpr fun x hx hx' => by
    rw [mem_setI] at hx hx'; have := start_inj h; omega
/-- Two different blocks do not meet. -/
theorem disj_setO (p p' : Blk) (h : p ≠ p') : Disjoint (setO p) (setO p') :=
  Finset.disjoint_left.mpr fun x hx hx' => by
    rw [mem_setO] at hx hx'; have := start_inj h; omega
/-- The windows make up the index list. -/
theorem all_setI : (Finset.univ : Finset Blk).biUnion setI = Finset.univ :=
  Finset.eq_univ_of_forall fun x => by
    obtain ⟨p, hp⟩ := start_cover (x 1).val (x 1).isLt
    exact Finset.mem_biUnion.mpr ⟨p, Finset.mem_univ _, (mem_setI p x).mpr hp⟩
/-- The blocks make up the output. -/
theorem all_setO : (Finset.univ : Finset Blk).biUnion setO = Finset.univ :=
  Finset.eq_univ_of_forall fun x => by
    obtain ⟨p, hp⟩ := start_cover (x 0).val (x 0).isLt
    exact Finset.mem_biUnion.mpr ⟨p, Finset.mem_univ _, (mem_setO p x).mpr hp⟩

variable (d : Dev nD)

abbrev idxLoc : Loc nD τ sig := (SparseCore.T d).loc main_v0
abbrev outLoc : Loc nD τ sig := (SparseCore.T d).loc main_v4

/-- The index list, cut into the tiles' blocks. -/
theorem idx_cut (f : S1x16384.Idx → Elt F .i32) : (idxLoc d ↦{fullShare} f : sProp 𝕄)
    = bigSep Finset.univ fun c : Fin 2 => bigSep Finset.univ fun s : Fin 16 => bigSep Finset.univ (ptI d (tile c s) f) := by
  have e : (idxLoc d ↦{fullShare} f : sProp 𝕄) = bigSep Finset.univ fun p : Blk => idxLoc d ↦[setI p]{fullShare} f := by
    refine Eq.trans ?_ (pointsTo_biUnion (ℓ := idxLoc d) (q := fullShare) (f := f) (Finset.univ : Finset Blk) setI fun p _ p' _ h => disj_setI p p' h)
    exact congrArg (fun S => (idxLoc d ↦[S]{fullShare} f : sProp 𝕄)) all_setI.symm
  rw [e, bigSep_univ_prod]
  refine bigSep_congr fun c _ => ?_
  rw [bigSep_univ_prod]
  refine bigSep_congr fun s _ => bigSep_congr fun b _ => ?_
  unfold ptI
  rw [owns_read (c := thr d (tile c s))]
  rfl

/-- The gathered rows, cut so, at the values block by block. -/
theorem out_cut (fT : S100000x128.Idx → Elt F .f32) (fI : S1x16384.Idx → Elt F .i32) (f0 f : S16384x128.Idx → Elt F .f32) (n : ℕ)
    (hf : ∀ b : Fin 4, (if b.val < n then gathered fT fI else f0) = f) : (outLoc d ↦{fullShare} f : sProp 𝕄)
    = bigSep Finset.univ fun c : Fin 2 => bigSep Finset.univ fun s : Fin 16 => bigSep Finset.univ (ptO d (tile c s) fT fI f0 n) := by
  have e : (outLoc d ↦{fullShare} f : sProp 𝕄) = bigSep Finset.univ fun p : Blk => outLoc d ↦[setO p]{fullShare} f := by
    refine Eq.trans ?_ (pointsTo_biUnion (ℓ := outLoc d) (q := fullShare) (f := f) (Finset.univ : Finset Blk) setO fun p _ p' _ h => disj_setO p p' h)
    exact congrArg (fun S => (outLoc d ↦[S]{fullShare} f : sProp 𝕄)) all_setO.symm
  rw [e, bigSep_univ_prod]
  refine bigSep_congr fun c _ => ?_
  rw [bigSep_univ_prod]
  refine bigSep_congr fun s _ => bigSep_congr fun b _ => ?_
  unfold ptO
  rw [owns_read (c := thr d (tile c s)), hf b]
  rfl

/-- The two cores' operands are the index list, the rows and the table's shares. -/
theorem coreRes_all (fT : Dev nD → S100000x128.Idx → Elt F .f32) (fI : Dev nD → S1x16384.Idx → Elt F .i32) (f0 : Dev nD → S16384x128.Idx → Elt F .f32)
    (n : ℕ) (f : S16384x128.Idx → Elt F .f32) (hf : ∀ b : Fin 4, (if b.val < n then gathered (fT d) (fI d) else f0 d) = f) :
    (bigSep Finset.univ fun c : Fin 2 => coreRes fT fI f0 d c n)
      = iprop((idxLoc d ↦{fullShare} fI d) ∗ (outLoc d ↦{fullShare} f) ∗ bigSep Finset.univ fun c : Fin 2 => tabLoc d ↦{qC c} fT d) := by
  unfold coreRes
  rw [idx_cut, out_cut d (fT d) (fI d) (f0 d) f n hf]
  simp only [bigSep_sep']

/-- The call's operands handed out: the rest of the table is kept. -/
theorem hand_out (fT : Dev nD → S100000x128.Idx → Elt F .f32) (fI : Dev nD → S1x16384.Idx → Elt F .i32) (f0 : Dev nD → S16384x128.Idx → Elt F .f32) :
    iprop((idxLoc d ↦{fullShare} fI d) ∗ (outLoc d ↦{fullShare} f0 d) ∗ (tabLoc d ↦{fullShare} fT d))
      ⊢ (iprop((bigSep Finset.univ fun c : Fin 2 => coreRes fT fI f0 d c 0) ∗ (tabLoc d ↦{shareDrop fullShare 2} fT d)) : sProp 𝕄) := by
  rw [coreRes_all d fT fI f0 0 (f0 d) fun b => if_neg (Nat.not_lt_zero _)]
  iintro ⟨HI, HO, HT⟩
  ihave HT := (Transfers.pointsTo_toks_split fullShare 2) $$ HT
  icases HT with ⟨HT, Hs⟩
  isplitl [HI HO Hs]
  · isplitl [HI]; · iexact HI
    isplitl [HO]; · iexact HO
    iexact Hs
  · iexact HT

/-- And taken back: the rows gathered. -/
theorem take_back (fT : Dev nD → S100000x128.Idx → Elt F .f32) (fI : Dev nD → S1x16384.Idx → Elt F .i32) (f0 : Dev nD → S16384x128.Idx → Elt F .f32) :
    (iprop((bigSep Finset.univ fun c : Fin 2 => coreRes fT fI f0 d c 4) ∗ (tabLoc d ↦{shareDrop fullShare 2} fT d)) : sProp 𝕄)
      ⊢ iprop((idxLoc d ↦{fullShare} fI d) ∗ (outLoc d ↦{fullShare} gathered (fT d) (fI d)) ∗ (tabLoc d ↦{fullShare} fT d)) := by
  rw [coreRes_all d fT fI f0 4 (gathered (fT d) (fI d)) fun b => if_pos b.isLt]
  iintro ⟨⟨HI, HO, Hs⟩, HT⟩
  isplitl [HI]; · iexact HI
  isplitl [HO]; · iexact HO
  iapply (Transfers.pointsTo_toks_join fullShare 2)
  isplitl [HT]; · iexact HT
  iexact Hs

end Cert.Proof.Operands

end
-- ==== Proof.Region.lean ====
/-
  One TensorCore region of @main as a step of the launched program: from the unscoped buffers at any contents, what the
  TensorCore still owes the SparseCores and the region's own ghost state, to the buffers as the region leaves them and
  the same debts, with every recorded wait still below the next start.
-/
module

public import proofs.«01_k».proof.Proof.Setup
public import Idealize.ShloMosaic.Lib.Pipeline.RegionArrays
public import Idealize.ShloMosaic.Lib.Pipeline.RegionArraysS

@[expose] public section

noncomputable section

namespace Cert.Proof.Region

open Cert.KernelIdeal Cert.KernelIdeal.Gen Cert.Proof.Setup

open Idealize.ShloMosaic
open Idealize.ShloMosaic.SparseCore (S V)
open Idealize.ShloMosaic.SparseCore.Cfg (HIx Pay)

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RegionSeg BodyObligationLoose OwnSemFacts scopedRest arrRef arrRefs afterRegion prefHeld_of_none ownSems0_none
  cellsWaits_of_cut arrays_held arrRefs_sub_ucRefs afterRegion_arr afterRegion_off cellsGhost toksInit owesWithin ucRefs)

variable {F : FTy → Type} [FloatOps F]

local notation "𝕄" => MM F

/-- The calls as blocks of stages: one call, one block. -/
abbrev Z1 : SparseCore.Cfg.Blocks 1 1 := inferInstance

/-- The TensorCore of `d`. -/
abbrev tc (d : Dev nD) : Thread nD τ := SparseCore.T d

/-- The (empty) prefetched tables of the two pipelines. -/
abbrev adm : (p : Fin 2) → (pcfgs (F := F) p).Adm := fun p => (cfgs p).toPCfg_adm
/-- The two pipelines' proof data. -/
abbrev Dats (F : FTy → Type) [FloatOps F] : Type := (p : Fin 2) → (c : Dev nD) → Dat τ (Elt F) (HIx 1) ℕ UU ℕ (Pipeline.pin (pcfgs (F := F)) adm p) c

/-- What the TensorCore owes before call `n`, every recorded wait at or below the level of that call's start. -/
abbrev owesTc (d : Dev nD) (n : ℕ) : sProp 𝕄 :=
  iprop(∃ W, ⌜(K (F := F)).WBelow (tc d) W (8 * Z1.fst n)⌝ ∗ owes (tc d) ((K (F := F)).Otc d n) W)

variable (dats : Dats F) (p : Fin 2) (n : ℕ)

/-- What the step asks of a region's proof data: it owes what the TensorCore owes, records nothing above the next start,
    holds its arrays whole and keeps as its invariant the scoped buffers it does not stage. -/
structure Plain : Prop where
  owed : ∀ c t, (dats p c).owed t = (K (F := F)).Otc c n
  recorded : ∀ c t, (dats p c).recorded t = {x | (K (F := F)).lev (tc c, x.1) x.2 ≤ 8 * Z1.fst n}
  share : ∀ c w, (dats p c).share w = fullShare
  inv : ∀ c t, (dats p c).Φ t = scopedRest (Pipeline.pin (pcfgs (F := F)) adm p).spec c

variable {dats p n}

/-- The region as a segment: entered with the unscoped buffers at `V c`, left with them at what it writes back. -/
def seg (kit : Pipeline.LaunchFacts (nD := nD) (τ := τ) cfgs p) (hp : Plain dats p n)
    (hbody : ∀ c, BodyObligationLoose (dats p c) (defs₀ (F := F)) 𝒱₀ none Set.univ)
    (V : Dev nD → Valuation τ sig (Elt F))
    (hV : ∀ c w, (dats p c).arrAt w 0 = V c (Proc.devRef .tc (arrRef (Pipeline.pin (pcfgs (F := F)) adm p).spec w))) :
    RegionSeg (pcfgs (F := F)) adm dats none (defs₀ (F := F)) 𝒱₀ (K (F := F)).L (K (F := F)).lev p where
  win := kit.win.to₀
  block_pos := kit.block_pos
  stage_whole := kit.stage_whole
  K := PEmpty
  osem k := k.elim
  ho := OwnSemFacts.none _
  hbody := hbody
  hwaits c := cellsWaits_of_cut (Pipeline.pin (pcfgs (F := F)) adm) dats none p c (8 * Z1.fst n) ((K (F := F)).Otc c n) (hp.owed c)
    (fun _ _ => Finset.mem_univ _) (fun _ _ => Nat.zero_le _)
    (fun g i h => ⟨Finset.mem_univ _, SparseCore.Cfg.lev_of_Otc_pos h⟩)
  pre c := iprop(StableHlo.held (tc c) (ucRefs τ sig) (V c) ∗ owesTc c n)
  post c := iprop(StableHlo.held (tc c) (ucRefs τ sig) (afterRegion (dats p c) (V c)) ∗ owesTc c n)
  X _ := iprop(emp)
  Y _ := iprop(emp)
  Z c := StableHlo.held (tc c) (ucRefs τ sig \ arrRefs (pcfgs (F := F) p).spec) (V c)
  hentry c := by
    rw [ownSems0_none, prefHeld_of_none _ rfl,
      arrays_held (pcfgs (F := F)) adm dats p kit.toP c (hp.share c) ((dats p c).arrAt · 0) (V c) (hV c),
      StableHlo.held_sub_split (tc c) (arrRefs_sub_ucRefs (pcfgs (F := F) p).spec kit.win.arr_unscoped) (V c)]
    iintro ⟨⟨⟨Ha, Hr⟩, HO⟩, -, -⟩
    imodintro
    isplitl [Ha]; · iexact Ha
    isplitr; · iempintro
    isplitl [HO]
    · unfold Dat.owesAt owesWithin Dat.bound
      rw [hp.owed c 0, hp.recorded c 0]
      icases HO with ⟨%W, %hW, HO⟩; iexists W; isplitr; · ipureintro; exact fun x hx => Or.inl (hW x hx)
      iexact HO
    isplitr; · iempintro
    iexact Hr
  hin c := by
    rw [prefHeld_of_none _ rfl, hp.inv]
    iintro ⟨-, -, H⟩; iexact H
  hout c := by
    rw [ownSems0_none, hp.inv]
    iintro H
    isplitr; · iempintro
    isplitr; · iempintro
    iexact H
  hexit c := by
    rw [arrays_held (pcfgs (F := F)) adm dats p kit.toP c (hp.share c) ((dats p c).arrAt · (Pipeline.pin (pcfgs (F := F)) adm p).N)
        (afterRegion (dats p c) (V c)) (fun w => (afterRegion_arr (dats p c) (V c) kit.win.arr_inj w).symm),
      StableHlo.held_sub_split (tc c) (arrRefs_sub_ucRefs (pcfgs (F := F) p).spec kit.win.arr_unscoped) (afterRegion (dats p c) (V c)),
      StableHlo.held_congr (tc c) (S := ucRefs τ sig \ arrRefs (pcfgs (F := F) p).spec) (V := afterRegion (dats p c) (V c)) (V' := V c)
        (afterRegion_off (dats p c) (V c) (ucRefs τ sig))]
    iintro ⟨Ha, HO, -, Hr⟩
    imodintro
    isplitl [Ha Hr]
    · isplitl [Ha]; · iexact Ha
      iexact Hr
    unfold Dat.owesAt owesWithin Dat.bound
    rw [hp.owed c (Fin.last _), hp.recorded c (Fin.last _)]
    icases HO with ⟨%W, %hW, HO⟩; iexists W
    isplitr
    · ipureintro
      intro x hx
      rcases hW (Finset.mem_coe.mpr hx) with h | ⟨w, s, rfl⟩
      · exact h
      · exact Nat.zero_le _
    iexact HO

/-- The region's step in the launched program. -/
theorem wp_region (EP : Emb UP 𝕄) [EP.LandsIn (upEmb : UEmb _ 𝕄)]
    (kit : Pipeline.LaunchFacts (nD := nD) (τ := τ) cfgs p) (hp : Plain dats p n)
    (hbody : ∀ c, BodyObligationLoose (dats p c) (defs₀ (F := F)) 𝒱₀ none Set.univ)
    (V : Dev nD → Valuation τ sig (Elt F))
    (hV : ∀ c w, (dats p c).arrAt w 0 = V c (Proc.devRef .tc (arrRef (Pipeline.pin (pcfgs (F := F)) adm p).spec w)))
    (d : Dev nD) (Q : PUnit → sProp 𝕄) :
    iprop((iprop(boundary (tc d) ∗ StableHlo.held (tc d) (ucRefs τ sig) (afterRegion (dats p d) (V d)) ∗ owesTc d n) -∗ Q ⟨⟩)
        ∗ boundary (tc d) ∗ (StableHlo.held (tc d) (ucRefs τ sig) (V d) ∗ owesTc d n) ∗ levAts (K (F := F)).L (K (F := F)).lev
        ∗ cellsGhost (Pipeline.pin (pcfgs (F := F)) adm) EP p d ∗ toksInit (Pipeline.pin (pcfgs (F := F)) adm) EP p d)
      ⊢ wp frame (wpE ((K (F := F)).defs D) 𝒱 (tc d) none) Set.univ
        (Prog.lift (.customCall (SparseCore.inner (Pipeline.entry p)) ())) Q := by
  refine BIBase.Entails.trans ?_ ((K (F := F)).wp_liftProg D 𝒱 (tc d) Set.univ none
    (.op (.customCall (Pipeline.entry p) ()) fun x => .ret x) Q)
  have hw := (RegionSeg.wp (pcfgs (F := F)) adm dats none (kit.toP.cellOf_inj adm) EP (defs₀ (F := F)) 𝒱₀ (K (F := F)).L (K (F := F)).lev
    (seg kit hp hbody V hV) d none (fun u hu => nomatch hu) (fun x => .ret x) Q)
  rw [show (seg kit hp hbody V hV).pre d = iprop(StableHlo.held (tc d) (ucRefs τ sig) (V d) ∗ owesTc d n) from rfl,
    show (seg kit hp hbody V hV).post d = iprop(StableHlo.held (tc d) (ucRefs τ sig) (afterRegion (dats p d) (V d)) ∗ owesTc d n) from rfl] at hw
  refine BIBase.Entails.trans ?_ hw
  iintro ⟨HQ, Hb, Hpre, HL, Hg, Ht⟩
  isplitl [HQ]
  · iintro H
    sl_step
    iapply HQ
    iexact H
  isplitl [Hb]; · iexact Hb
  isplitl [Hpre]; · iexact Hpre
  isplitl [HL]; · iexact HL
  isplitl [Hg]; · iexact Hg
  iexact Ht

end Cert.Proof.Region

end
-- ==== Proof.Start.lean ====
/-
  The launch element: the handshakes' rounds, the two pipelines' rounds and no counters; what each TensorCore is dealt of
  the pipelines' ghost state.
-/
module

public import proofs.«01_k».proof.Proof.Operands
public import proofs.«01_k».proof.Proof.Region

@[expose] public section

noncomputable section

namespace Cert.Proof.Start

open Cert.KernelIdeal Cert.KernelIdeal.Gen Cert.Proof.Setup Cert.Proof.Task

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (cellsGhost toksInit)
open Cert.Proof.Region (adm)

variable {F : FTy → Type} [FloatOps F]

local notation "𝕄" => MM F

/-- Where the handshakes' rounds and the pipelines' rounds sit. -/
def EH : Emb UH (MM F) :=
  ((Emb.inl : Emb UH (UH × UP)).trans (Emb.inl : Emb (UH × UP) UU)).trans
    (uEmb (nD := nD) (sig := sig) (Ix := HIx 1) (Val := Elt F) (Name := ℕ) (U := UU) (Lvl := ℕ)).toEmb
/-- The ledger of the dense calls, in the launch's element. -/
def EP : Emb UP (MM F) :=
  ((Emb.inr : Emb UP (UH × UP)).trans (Emb.inl : Emb (UH × UP) UU)).trans
    (uEmb (nD := nD) (sig := sig) (Ix := HIx 1) (Val := Elt F) (Name := ℕ) (U := UU) (Lvl := ℕ)).toEmb

/-- The handshakes' ledger stays above the machine. -/
instance EH_landsIn : (EH : Emb UH 𝕄).LandsIn (upEmb : UEmb _ 𝕄) := by unfold EH; infer_instance
/-- The dense calls' ledger stays above the machine. -/
instance EP_landsIn : (EP : Emb UP 𝕄).LandsIn (upEmb : UEmb _ 𝕄) := by unfold EP; infer_instance

/-- The pipelines' cells are distinct. -/
theorem phinj : Function.Injective (Pipeline.cellOf (nD := nD) (τ := τ) (Pipeline.pin (pcfgs (F := F)) adm)) :=
  launch0.toP.cellOf_inj adm

/-- The pipelines' part of the launch element. -/
def uP : UP := initOf (Pipeline.cells (Pipeline.pin (pcfgs (F := F)) adm) phinj) (Pipeline.launchToks (Pipeline.pin (pcfgs (F := F)) adm) phinj)
/-- The launch element. -/
def u₀ : UU := ((initOf (K (F := F)).hsCells (K (F := F)).hsToks, uP (F := F)), 1)

/-- Owning the launch's element is owning its two ledgers. -/
theorem ownU_split (a : UH) (b : UP) : (ownU (((a, b), 1) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (Prod.mk_mem_op (URA.mem_op_one a) (URA.mem_one_op b)) (URA.mem_op_one (1 : Counters))))

/-- What a TensorCore is dealt for pipeline `p`. -/
def ghost (p : Fin 2) (d : Dev nD) : sProp 𝕄 :=
  iprop(cellsGhost (Pipeline.pin (pcfgs (F := F)) adm) EP p d ∗ toksInit (Pipeline.pin (pcfgs (F := F)) adm) EP p d)
/-- And for both. -/
def G (d : Dev nD) : sProp 𝕄 := iprop(ghost (F := F) 0 d ∗ ghost (F := F) 1 d)

/-- What a device's ledger of the dense calls holds at the launch. -/
theorem G_eq (d : Dev nD) : (G (F := F) d : sProp 𝕄)
    = iprop((bigSep Finset.univ fun p => cellsGhost (Pipeline.pin (pcfgs (F := F)) adm) EP p d)
        ∗ bigSep Finset.univ fun p => toksInit (Pipeline.pin (pcfgs (F := F)) adm) EP p d) := by
  rw [← bigSep_sep', bigSep_univ_two]
  rfl

/-- Nothing, many times over, is nothing. -/
theorem bigSep_emp' {I : Type} (s : Finset I) : (bigSep s fun _ => iprop(emp)) = (iprop(emp) : sProp 𝕄) := bigSep_emp_const s

/-- The launch element dealt out. -/
theorem hu₀ (fT : Dev nD → S100000x128.Idx → Elt F .f32) (fI : Dev nD → S1x16384.Idx → Elt F .i32) (f0 : Dev nD → S16384x128.Idx → Elt F .f32) :
    (ownU (u₀ (F := F)) : sProp 𝕄)
      ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P fT fI f0).x q thr) := by
  have hx : (bigSep Finset.univ fun thr : Thread nD τ => bigSep Finset.univ fun q : Fin 1 => (P fT fI f0).x q thr) = (iprop(emp) : sProp 𝕄) := by
    show (bigSep Finset.univ fun _ : Thread nD τ => bigSep Finset.univ fun _ : Fin 1 => (iprop(emp) : sProp 𝕄)) = _
    simp only [bigSep_emp']
  have hG : (bigSep Finset.univ fun d : Dev nD => G (F := F) d)
      = (iprop((bigSep Finset.univ fun d : Dev nD => bigSep Finset.univ fun p => cellsGhost (Pipeline.pin (pcfgs (F := F)) adm) EP p d)
        ∗ bigSep Finset.univ fun d : Dev nD => bigSep Finset.univ fun p => toksInit (Pipeline.pin (pcfgs (F := F)) adm) EP p d) : sProp 𝕄) := by
    rw [← bigSep_sep']
    exact bigSep_congr fun d _ => G_eq d
  rw [hx, hG]
  unfold u₀ uP
  iintro Hu
  ihave H := (ownU_split _ _) $$ Hu
  icases H with ⟨HH, HP⟩
  imod (Pipeline.fund_ghost (Pipeline.pin (pcfgs (F := F)) adm) EP phinj) $$ HP with ⟨Hg, Ht⟩
  imodintro
  isplitl [HH]; · iexact HH
  isplitl [Hg Ht]
  · isplitl [Hg]; · iexact Hg
    iexact Ht
  iempintro

end Cert.Proof.Start

end
-- ==== Proof.Bodies.lean ====
/-
  The two TensorCore kernel bodies as steps over whole blocks: the repacking of a pair of transposed blocks into one block
  of rows, and the projection of a block of gathered rows. Each is run once, over any staging memrefs.
-/
module

public import proofs.«01_k».proof.Proof.Setup
public import Idealize.ShloMosaic.Lib.Writes

@[expose] public section

noncomputable section

namespace Cert.Proof.Bodies

open Cert.KernelIdeal Cert.KernelIdeal.Gen Cert.Proof.Setup

open Idealize.ShloMosaic
open Idealize.ShloMosaic.ValueIdx (ix1 ix2 eq_ix1 eq_ix2)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (d : Dev nD)

/-- The TensorCore of `d`. -/
abbrev tc : Thread nD τ := SparseCore.T d

section Access

variable {cs : CoreSpace} {s : Shape} {e : EltTy} (m : Memref sig .tc (.core cs) s e) (q : PosShare TreeShare) (X : s.Idx → Elt F e)

/-- A load through a rectangle of a memref that reads `X` reads `X` there. -/
theorem load_step (r : Rect s) {hl : m.view.LoadsAt r.toLoadRect} (k : (r.shape.Idx → Elt F e) → Prog (TpuEff nD τ sig (Elt F) Λ₀ .tc) PUnit)
    (Q : PUnit → sProp 𝕄) :
    (owns (tc d) m q X : sProp 𝕄)
      ⊢ iprop((owns (tc d) m q X -∗ wp frame (wpE (defs₀ (F := F)) 𝒱₀ (tc d) none) Set.univ (k fun j => X (r.emb j)) Q)
        -∗ wp frame (wpE (defs₀ (F := F)) 𝒱₀ (tc d) none) Set.univ (.op (.load m r.toLoadRect hl) k) Q) := by
  unfold owns
  iintro ⟨%f, %hf, H⟩ Hk
  subst hf
  iapply (wp_load_rect 𝒱₀ (tc d) none Set.univ (m := m) (r := r) (S := m.view.set) (q := q) (f := f) ?_) $$ H
  · rw [View.set_slice]; exact Finset.map_subset_map.mpr (Finset.subset_univ _)
  iintro H
  iapply Hk
  iexists f; isplitr
  · ipureintro; rfl
  · iexact H

/-- A store through a rectangle of a memref that reads `X` leaves `X` with the stored values there. -/
theorem store_step (r : Rect s) (w : r.shape.Idx → Elt F e) {hx : (m.access r).Stores Finset.univ}
    {hm : Finset.univ = Finset.univ ∨ ∀ a, r.stride a = 1} (k : PUnit → Prog (TpuEff nD τ sig (Elt F) Λ₀ .tc) PUnit)
    (Q : PUnit → sProp 𝕄) :
    (owns (tc d) m fullShare X : sProp 𝕄)
      ⊢ iprop((owns (tc d) m fullShare (r.overlay X w) -∗ wp frame (wpE (defs₀ (F := F)) 𝒱₀ (tc d) none) Set.univ (k ⟨⟩) Q)
        -∗ wp frame (wpE (defs₀ (F := F)) 𝒱₀ (tc d) none) Set.univ (.op (.store m r w Finset.univ hx hm) k) Q) := by
  unfold owns
  iintro ⟨%f, %hf, H⟩ Hk
  subst hf
  iapply (wp_store_writes₀ 𝒱₀ (tc d) none Set.univ (m := m) (r := r) (w := w) (S := m.view.set) (f := f) ?_) $$ H
  · rw [View.set_slice]; exact Finset.map_subset_map.mpr (Finset.subset_univ _)
  iintro H
  iapply Hk
  iexists _; isplitr
  swap; · iexact H
  ipureintro
  funext y
  by_cases hy : y ∈ r.set
  · obtain ⟨x, rfl⟩ := r.exists_idx_of_mem hy
    show m.view.read (Elt F) (m.view.writes (Elt F) f [⟨r, w⟩]) (r.emb x) = r.overlay _ w (r.emb x)
    rw [View.read_writes_cons_hit _ _ r w [] x _ rfl]
    exact (r.overlay_emb _ w x).symm
  · rw [View.read_writes_cons_miss _ _ _ _ y hy, Rect.overlay_of_not_mem _ _ _ hy]
    rfl

end Access

/-- A rectangle from the origin of the buffer's own extents reads everything. -/
theorem read_full {s : Shape} {α : Type} {off : Fin s.rank → ℕ} (h : off = fun _ => 0) (inb) (X : s.Idx → α) :
    (fun j => X ((Rect.unit off s.size inb).emb j)) = X := by
  subst h
  funext j
  congr 1
  funext a
  refine Fin.ext ?_
  show 0 + 1 * (j a).val = (j a).val
  omega

/-- A store through it replaces everything. -/
theorem overlay_full {s : Shape} {α : Type} {off : Fin s.rank → ℕ} (h : off = fun _ => 0) (inb) (X w : s.Idx → α) :
    (Rect.unit off s.size inb).overlay X w = w := by
  subst h
  funext j
  have e : (Rect.unit (fun _ => 0) s.size inb).emb j = j := by
    funext a
    refine Fin.ext ?_
    show 0 + 1 * (j a).val = (j a).val
    omega
  have := Rect.overlay_emb (Rect.unit (fun _ => 0) s.size inb) X w j
  rwa [e] at this

/-- The offset of a whole array is zero. -/
theorem hz : (![0, 0] : Fin 2 → Nat) = fun _ => 0 := funext fun a => by fin_cases a <;> rfl

/-- Two transposed blocks side by side, as rows: columns `0..63` from the first, `64..127` from the second. -/
def packed {α : Type} (X Y : S64x2048.Idx → α) : S2048x128.Idx → α := fun y =>
  if h : (y 1).val < 64 then X (ix2 (⟨(y 1).val, h⟩ : Fin 64) (y 0 : Fin 2048))
  else Y (ix2 (⟨(y 1).val - 64, by have := (show (y 1).val < 128 from (y 1).isLt); omega⟩ : Fin 64) (y 0 : Fin 2048))

/-- The first half of a repacked block is its input transposed. -/
theorem pay1_apply (X : Vec F S64x2048 .f32) (r : Fin 2048) (c : Fin 64) : k0_pay1 X (ix2 r c) = X (ix2 c r) := by
  unfold k0_pay1
  rw [shapeCast_self]
  exact ValueIdx.transpose_ix2_apply _ _ _ _

/-- The second half of a repacked block is its input transposed. -/
theorem pay2_apply (X : Vec F S64x2048 .f32) (r : Fin 2048) (c : Fin 64) : k0_pay2 X (ix2 r c) = X (ix2 c r) := pay1_apply X r c

/-- The two stores of the repacking leave the block packed. -/
theorem overlay_packed (X Y : Vec F S64x2048 .f32) (Z : Vec F S2048x128 .f32) :
    (Rect.unit (s := S2048x128) ![0, 64] S2048x64.size inb_S2048x128_S2048x64_0_64).overlay
      ((Rect.unit (s := S2048x128) ![0, 0] S2048x64.size inb_S2048x128_S2048x64_0_0).overlay Z (k0_pay1 X)) (k0_pay2 Y)
      = packed X Y := by
  funext y
  have h1 := (show (y 1).val < 128 from (y 1).isLt)
  unfold packed
  split
  case isTrue h =>
    rw [Rect.overlay_of_not_mem]
    · have e : y = (Rect.unit (s := S2048x128) ![0, 0] S2048x64.size inb_S2048x128_S2048x64_0_0).emb (ix2 (y 0 : Fin 2048) (⟨(y 1).val, h⟩ : Fin 64)) := by
        funext a
        refine Fin.ext ?_
        match a with
        | 0 => show (y 0).val = 0 + 1 * (y 0).val; omega
        | 1 => show (y 1).val = 0 + 1 * (y 1).val; omega
      conv_lhs => rw [e]
      rw [Rect.overlay_emb]
      exact pay1_apply X _ _
    · exact Rect.not_mem_set_of_axis _ y 1 64 64 rfl rfl rfl (.inl h)
  case isFalse h =>
    have e : y = (Rect.unit (s := S2048x128) ![0, 64] S2048x64.size inb_S2048x128_S2048x64_0_64).emb
        (ix2 (y 0 : Fin 2048) (⟨(y 1).val - 64, by omega⟩ : Fin 64)) := by
      funext a
      refine Fin.ext ?_
      match a with
      | 0 => show (y 0).val = 0 + 1 * (y 0).val; omega
      | 1 => show (y 1).val = 64 + 1 * ((y 1).val - 64); omega
    conv_lhs => rw [e]
    rw [Rect.overlay_emb]
    exact pay2_apply Y _ _

/-- A return before a return is a return. -/
theorem ret_pure : ((Prog.ret PUnit.unit).bind fun _ => (Pure.pure PUnit.unit : Prog (TpuEff nD τ sig (Elt F) Λ₀ .tc) PUnit)) = .ret ⟨⟩ := rfl

/-- The repacking body: the two input blocks kept, the output block packed from them. -/
theorem repack_run (i : grid0.Coords) (a1 a2 : Memref sig .tc .vmem S64x2048 .f32) (a3 : Memref sig .tc .vmem S2048x128 .f32)
    (h1 : a1.IsWhole) (h2 : a2.IsWhole) (h3 : a3.IsWhole) (X Y : Vec F S64x2048 .f32) (Z : Vec F S2048x128 .f32) (Q : PUnit → sProp 𝕄) :
    iprop(owns (tc d) a1 fullShare X ∗ owns (tc d) a2 fullShare Y ∗ owns (tc d) a3 fullShare Z)
      ⊢ iprop((iprop(owns (tc d) a1 fullShare X ∗ owns (tc d) a2 fullShare Y ∗ owns (tc d) a3 fullShare (packed X Y)) -∗ Q ⟨⟩)
        -∗ wp frame (wpE (defs₀ (F := F)) 𝒱₀ (tc d) none) Set.univ (cc0__repack_body i a1 h1 a2 h2 a3 h3) Q) := by
  rw [cc0__repack_body_eq_skeleton]
  unfold cc0__repack_body_skel
  iintro ⟨H1, H2, H3⟩ Hk
  iapply (load_step d a1 fullShare X) $$ H1
  iintro H1
  iapply (load_step d a3 fullShare Z) $$ H3
  iintro H3
  iapply (store_step d a3 Z) $$ H3
  iintro H3
  iapply (load_step d a2 fullShare Y) $$ H2
  iintro H2
  iapply (load_step d a3 fullShare) $$ H3
  iintro H3
  iapply (store_step d a3) $$ H3
  iintro H3
  rw [read_full hz, read_full hz, overlay_packed]
  rw [ret_pure]
  sl_step
  iapply Hk
  iframe H1 H2 H3

/-- The projection body: the operands' blocks kept, the output block their projection. -/
theorem proj_run (i : grid2.Coords) (a1 : Memref sig .tc .vmem S2048x128 .f32) (a2 : Memref sig .tc .vmem S2048x1 .f32)
    (a3 : Memref sig .tc .vmem S128x128 .f32) (a4 a5 : Memref sig .tc .vmem S1x128 .f32) (a6 : Memref sig .tc .vmem S2048x128 .f32)
    (h1 : a1.IsWhole) (h2 : a2.IsWhole) (h3 : a3.IsWhole) (h4 : a4.IsWhole) (h5 : a5.IsWhole) (h6 : a6.IsWhole)
    (X1 : Vec F S2048x128 .f32) (X2 : Vec F S2048x1 .f32) (X3 : Vec F S128x128 .f32) (X4 X5 : Vec F S1x128 .f32) (Z : Vec F S2048x128 .f32)
    (Q : PUnit → sProp 𝕄) :
    iprop(owns (tc d) a1 fullShare X1 ∗ owns (tc d) a2 fullShare X2 ∗ owns (tc d) a3 fullShare X3 ∗ owns (tc d) a4 fullShare X4
        ∗ owns (tc d) a5 fullShare X5 ∗ owns (tc d) a6 fullShare Z)
      ⊢ iprop((iprop(owns (tc d) a1 fullShare X1 ∗ owns (tc d) a2 fullShare X2 ∗ owns (tc d) a3 fullShare X3 ∗ owns (tc d) a4 fullShare X4
          ∗ owns (tc d) a5 fullShare X5 ∗ owns (tc d) a6 fullShare (k2_pay1 X2 X1 X3 X4 X5)) -∗ Q ⟨⟩)
        -∗ wp frame (wpE (defs₀ (F := F)) 𝒱₀ (tc d) none) Set.univ (cc2__tc_body i a1 h1 a2 h2 a3 h3 a4 h4 a5 h5 a6 h6) Q) := by
  rw [cc2__tc_body_eq_skeleton]
  unfold cc2__tc_body_skel
  iintro ⟨H1, H2, H3, H4, H5, H6⟩ Hk
  iapply (load_step d a2 fullShare X2) $$ H2
  iintro H2
  iapply (load_step d a1 fullShare X1) $$ H1
  iintro H1
  iapply (load_step d a3 fullShare X3) $$ H3
  iintro H3
  iapply (load_step d a4 fullShare X4) $$ H4
  iintro H4
  iapply (load_step d a5 fullShare X5) $$ H5
  iintro H5
  iapply (load_step d a6 fullShare Z) $$ H6
  iintro H6
  iapply (store_step d a6 Z) $$ H6
  iintro H6
  rw [read_full hz, read_full hz, read_full hz, read_full hz, read_full hz, overlay_full hz]
  rw [ret_pure]
  sl_step
  iapply Hk
  iframe H1 H2 H3 H4 H5 H6

end Cert.Proof.Bodies

end
-- ==== Proof.Repack.lean ====
/-
  The repacking call: its proof data over any contents of the unscoped buffers, its body's obligation (the last block
  overhangs the tables: the part past their end is any), and the array it leaves in closed form.
-/
module

public import proofs.«01_k».proof.Proof.Bodies
public import proofs.«01_k».proof.Proof.Region
public import proofs.«01_k».proof.Proof.Gen.KernelIdeal.Points
public import Idealize.ShloMosaic.Lib.Pipeline.ValueKit.Geometry

@[expose] public section

noncomputable section

namespace Cert.Proof.Repack

open Cert.KernelIdeal Cert.KernelIdeal.Gen Cert.Proof.Setup Cert.Proof.Bodies

open Idealize.ShloMosaic
open Idealize.ShloMosaic.ValueIdx (ix1 ix2 eq_ix1 eq_ix2)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligationLoose scopedRest arrRef Window)

variable {F : FTy → Type} [FloatOps F]

local notation "𝕄" => MM F

/-- A value to fill what no transfer moves with. -/
def pad : Elt F .f32 := Scalar.ofBits .f32 0x00000000#32

variable (d : Dev nD) (V : Valuation τ sig (Elt F))

/-- The two transposed tables as the call finds them. -/
abbrev catT : S64x100000.Idx → Elt F .f32 := V (Proc.devRef .tc main_v1)
abbrev numT : S64x100000.Idx → Elt F .f32 := V (Proc.devRef .tc main_v2)

/-- The block of a transposed table at a point, whole: past the table's end, any contents `z`. -/
def in0 (t : Fin grid0.N) (z : S64x2048.Idx → Elt F .f32) : S64x2048.Idx → Elt F .f32 :=
  win0_0.fill (grid0.coords t) z ((win0_0.blk t).view.read (Elt F) (catT V))
/-- The second window at a step, with what it held where the block overhangs the table. -/
def in1 (t : Fin grid0.N) (z : S64x2048.Idx → Elt F .f32) : S64x2048.Idx → Elt F .f32 :=
  win0_1.fill (grid0.coords t) z ((win0_1.blk t).view.read (Elt F) (numT V))

/-- What the body leaves in the output's staging buffer at a point. -/
def out (t : Fin grid0.N) : S2048x128.Idx → Elt F .f32 := packed (in0 V t fun _ => pad) (in1 V t fun _ => pad)

/-- The call's proof data. -/
def dat : Dat τ (Elt F) (HIx 1) ℕ UU ℕ cfg0 d where
  A w := V (Proc.devRef .tc (arrRef spec0 w))
  after := fun
    | 0 => fun t => in0 V t fun _ => pad
    | 1 => fun t => in1 V t fun _ => pad
    | 2 => fun t => out V t
    | ⟨_ + 3, h⟩ => absurd h (Nat.not_lt.2 (Nat.le_add_left _ _))
  Φ _ := scopedRest spec0 d
  q _ := fullShare
  owed _ := (K (F := F)).Otc d 0
  recorded _ := {x | (K (F := F)).lev (tc d, x.1) x.2 ≤ 8 * Region.Z1.fst 0}

/-! ## What is moved -/

/-- How much of each step's block lies inside the table. -/
theorem xsize0 : ∀ t : Fin grid0.N, win0_0.xsize (grid0.coords t) 0 = 64 ∧ win0_0.xsize (grid0.coords t) 1 = win0_2.xsize (grid0.coords t) 0
    ∧ win0_1.xsize (grid0.coords t) 0 = 64 ∧ win0_1.xsize (grid0.coords t) 1 = win0_2.xsize (grid0.coords t) 0 := by decide +kernel

/-- Which block each window is at, by step. -/
theorem index0 : ∀ t : Fin grid0.N, win0_0.index t = ![0, t.val] ∧ win0_1.index t = ![0, t.val] ∧ win0_2.index t = ![t.val, 0] := by
  decide +kernel

/-- The steps' blocks make up the repacked table. -/
theorem covers : (cfg0.win 2).Covers := by decide +kernel

/-- Where the output's transfer moves an element, the inputs' move the ones it was packed from: the packed block is the
    same there whatever lies past the tables' ends. -/
theorem packed_moved (t : Fin grid0.N) (z0 z1 z0' z1' : S64x2048.Idx → Elt F .f32) (y : S2048x128.Idx)
    (hy : (y 0).val < win0_2.xsize (grid0.coords t) 0) :
    packed (in0 V t z0) (in1 V t z1) y = packed (in0 V t z0') (in1 V t z1') y := by
  have ⟨h1, h2, h3, h4⟩ := xsize0 t
  unfold packed
  split
  case isTrue h =>
    have hm : win0_0.moved (grid0.coords t) (ix2 (⟨(y 1).val, h⟩ : Fin 64) (y 0 : Fin 2048)) = true :=
      (win0_0.moved_iff _ _).mpr fun a => by
        match a with
        | 0 => rw [h1]; exact h
        | 1 => rw [h2]; exact hy
    unfold in0 Window.fill
    rw [dif_pos hm, dif_pos hm]
  case isFalse h =>
    have hm : win0_1.moved (grid0.coords t) (ix2 (⟨(y 1).val - 64, by have := (show (y 1).val < 128 from (y 1).isLt); omega⟩ : Fin 64) (y 0 : Fin 2048)) = true :=
      (win0_1.moved_iff _ _).mpr fun a => by
        match a with
        | 0 => rw [h3]; show (y 1).val - 64 < 64; have := (show (y 1).val < 128 from (y 1).isLt); omega
        | 1 => rw [h4]; exact hy
    unfold in1 Window.fill
    rw [dif_pos hm, dif_pos hm]

/-- The packed table: row `r` is row `r` of the first table, then row `r` of the second. -/
def table (X Y : S64x100000.Idx → Elt F .f32) : S100000x128.Idx → Elt F .f32 := fun x =>
  if h : (x 1).val < 64 then X (ix2 (⟨(x 1).val, h⟩ : Fin 64) (x 0 : Fin 100000))
  else Y (ix2 (⟨(x 1).val - 64, by have := (show (x 1).val < 128 from (x 1).isLt); omega⟩ : Fin 64) (x 0 : Fin 100000))

/-- A block's element is the table's at the block's place. -/
theorem out_apply (t : Fin grid0.N) (y : (win0_2.xblock (grid0.coords t)).Idx) :
    out V t (win0_2.xinj (grid0.coords t) y) = table (catT V) (numT V) ((win0_2.blk t).view.emb y) := by
  have ⟨h1, h2, h3, h4⟩ := xsize0 t
  have ⟨e1, e2, e3⟩ := index0 t
  have hy : (y 0).val < win0_2.xsize (grid0.coords t) 0 := (y 0).isLt
  have hy1 : (y 1).val < 128 := lt_of_lt_of_le (y 1).isLt (win0_2.xsize_le (grid0.coords t) 1)
  have a0 : ((win0_2.blk t).view.emb y 0).val = t.val * 2048 + (y 0).val := by
    show ((win0_2.rect t).emb y 0 : ℕ) = _
    rw [win0_2.rect_emb_val t, e3]; rfl
  have a1 : ((win0_2.blk t).view.emb y 1).val = (y 1).val := by
    show ((win0_2.rect t).emb y 1 : ℕ) = _
    rw [win0_2.rect_emb_val t, e3]; show 0 * 128 + _ = _; omega
  unfold out packed table
  split
  case isTrue h =>
    have h' : (y 1).val < 64 := h
    rw [dif_pos (by rw [a1]; exact h')]
    have hm : win0_0.moved (grid0.coords t) (ix2 (⟨(win0_2.xinj (grid0.coords t) y 1).val, h⟩ : Fin 64) (win0_2.xinj (grid0.coords t) y 0 : Fin 2048)) = true :=
      (win0_0.moved_iff _ _).mpr fun a => by
        match a with
        | 0 => rw [h1]; exact h
        | 1 => rw [h2]; exact hy
    unfold in0 Window.fill
    rw [dif_pos hm]
    show catT V _ = catT V _
    congr 1
    funext a
    refine Fin.ext ?_
    show ((win0_0.rect t).emb _ a : ℕ) = _
    rw [win0_0.rect_emb_val t, e1]
    match a with
    | 0 => show 0 * 64 + (y 1).val = ((win0_2.blk t).view.emb y 1).val; rw [a1]; omega
    | 1 => show t.val * 2048 + (y 0).val = ((win0_2.blk t).view.emb y 0).val; rw [a0]
  case isFalse h =>
    have h' : ¬ (y 1).val < 64 := h
    rw [dif_neg (by rw [a1]; exact h')]
    have hm : win0_1.moved (grid0.coords t) (ix2 (⟨(win0_2.xinj (grid0.coords t) y 1).val - 64, by show (y 1).val - 64 < 64; omega⟩ : Fin 64) (win0_2.xinj (grid0.coords t) y 0 : Fin 2048)) = true :=
      (win0_1.moved_iff _ _).mpr fun a => by
        match a with
        | 0 => rw [h3]; show (y 1).val - 64 < 64; omega
        | 1 => rw [h4]; exact hy
    unfold in1 Window.fill
    rw [dif_pos hm]
    show numT V _ = numT V _
    congr 1
    funext a
    refine Fin.ext ?_
    show ((win0_1.rect t).emb _ a : ℕ) = _
    rw [win0_1.rect_emb_val t, e2]
    match a with
    | 0 => show 0 * 64 + ((y 1).val - 64) = ((win0_2.blk t).view.emb y 1).val - 64; rw [a1]; omega
    | 1 => show t.val * 2048 + (y 0).val = ((win0_2.blk t).view.emb y 0).val; rw [a0]

/-- What the call leaves in its result: the packed table. -/
theorem arr_out : (dat d V).arrAt 2 cfg0.N = table (catT V) (numT V) :=
  (dat d V).arrAt_eq_of_covers 2 _ covers fun t _ y => out_apply V t y

/-! ## The body's obligation -/

/-- The body takes each step's windows to that step's block of the table. -/
theorem body : BodyObligationLoose (dat d V) (defs₀ (F := F)) 𝒱₀ none Set.univ := fun t => by
  rw [bigSep_W0, bigSep_W0]
  rw [show (dat d V).Φ t.succ = (dat d V).Φ t.castSucc from rfl, show (dat d V).owesAt none t.succ = (dat d V).owesAt none t.castSucc from rfl]
  rw [show (dat d V).before 0 t = in0 V t from funext fun z => (dat d V).before_fetched 0 t (fetch0_0 t) z,
    show (dat d V).before 1 t = in1 V t from funext fun z => (dat d V).before_fetched 1 t (fetch0_1 t) z]
  show _ ⊢ wp frame (wpE (defs₀ (F := F)) 𝒱₀ (tc d) none) Set.univ (bodyAt0 t) _
  unfold bodyAt0
  iintro ⟨HΦ, HO, ⟨%z0, H0⟩, ⟨%z1, H1⟩, ⟨%z2, H2⟩⟩
  iapply (repack_run d (grid0.coords t) _ _ _ _ _ _ (in0 V t z0) (in1 V t z1) ((dat d V).before 2 t z2)) $$ [H0 H1 H2]
  · iframe H0 H1 H2
  iintro ⟨H0, H1, H2⟩
  isplitl [HΦ]; · iexact HΦ
  isplitl [HO]; · iexact HO
  isplitl [H0]
  · iexists z0
    rw [show win0_0.cut (grid0.coords t) ((dat d V).after 0 t) = (win0_0.blk t).view.read (Elt F) (catT V) from win0_0.cut_fill _ _ _]
    iexact H0
  isplitl [H1]
  · iexists z1
    rw [show win0_1.cut (grid0.coords t) ((dat d V).after 1 t) = (win0_1.blk t).view.read (Elt F) (numT V) from win0_1.cut_fill _ _ _]
    iexact H1
  · iexists packed (in0 V t z0) (in1 V t z1)
    rw [win0_2.fill_congr_cut (grid0.coords t) (X := packed (in0 V t z0) (in1 V t z1)) (Y := (dat d V).after 2 t)
      (funext fun y => packed_moved V t _ _ _ _ _ (y 0).isLt)]
    iexact H2

end Cert.Proof.Repack

end
-- ==== Proof.Proj.lean ====
/-
  The projection call: its proof data over any contents of the unscoped buffers, its body's obligation, and the array it
  leaves, each block the body's projection of the operands' blocks.
-/
module

public import proofs.«01_k».proof.Proof.Bodies
public import proofs.«01_k».proof.Proof.Region
public import proofs.«01_k».proof.Proof.Gen.KernelIdeal.Points
public import Idealize.ShloMosaic.Lib.Pipeline.ValueKit.Geometry

@[expose] public section

noncomputable section

namespace Cert.Proof.Proj

open Cert.KernelIdeal Cert.KernelIdeal.Gen Cert.Proof.Setup Cert.Proof.Bodies

open Idealize.ShloMosaic
open Idealize.ShloMosaic.ValueIdx (ix1 ix2 eq_ix1 eq_ix2)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligationLoose scopedRest arrRef Window)

variable {F : FTy → Type} [FloatOps F]

local notation "𝕄" => MM F

variable (d : Dev nD) (V : Valuation τ sig (Elt F))

/-- The operands' blocks at a point. -/
abbrev rowsB (t : Fin grid2.N) : S2048x128.Idx → Elt F .f32 := (win2_0.blk t).view.read (Elt F) (V (Proc.devRef .tc main_v4))
abbrev valsB (t : Fin grid2.N) : S2048x1.Idx → Elt F .f32 := (win2_1.blk t).view.read (Elt F) (V (Proc.devRef .tc main_v8))
abbrev wtsB (t : Fin grid2.N) : S128x128.Idx → Elt F .f32 := (win2_2.blk t).view.read (Elt F) (V (Proc.devRef .tc main_v7))
abbrev bcB (t : Fin grid2.N) : S1x128.Idx → Elt F .f32 := (win2_3.blk t).view.read (Elt F) (V (Proc.devRef .tc main_v9))
abbrev bnB (t : Fin grid2.N) : S1x128.Idx → Elt F .f32 := (win2_4.blk t).view.read (Elt F) (V (Proc.devRef .tc main_v10))

/-- What the body leaves in the output's staging buffer at a point. -/
def out (t : Fin grid2.N) : S2048x128.Idx → Elt F .f32 := k2_pay1 (valsB V t) (rowsB V t) (wtsB V t) (bcB V t) (bnB V t)

/-- The call's proof data. -/
def dat : Dat τ (Elt F) (HIx 1) ℕ UU ℕ cfg2 d where
  A w := V (Proc.devRef .tc (arrRef spec2 w))
  after := fun
    | 0 => fun t => rowsB V t
    | 1 => fun t => valsB V t
    | 2 => fun t => wtsB V t
    | 3 => fun t => bcB V t
    | 4 => fun t => bnB V t
    | 5 => fun t => out V t
    | ⟨_ + 6, h⟩ => absurd h (Nat.not_lt.2 (Nat.le_add_left _ _))
  Φ _ := scopedRest spec2 d
  q _ := fullShare
  owed _ := (K (F := F)).Otc d 1
  recorded _ := {x | (K (F := F)).lev (tc d, x.1) x.2 ≤ 8 * Region.Z1.fst 1}

/-! ## The operands as the body finds them -/

/-- At each step the first window holds that step's rows. -/
theorem before_rows (t : Fin cfg2.N) (z) : (dat d V).before 0 t z = rowsB V t := (dat d V).before_fetched 0 t (fetch2_0 t) z
/-- At each step the second window holds that step's values. -/
theorem before_vals (t : Fin cfg2.N) (z) : (dat d V).before 1 t z = valsB V t := (dat d V).before_fetched 1 t (fetch2_1 t) z
/-- At each step the third window holds the weights. -/
theorem before_wts (t : Fin cfg2.N) (z) : (dat d V).before 2 t z = wtsB V t :=
  (dat d V).before_in_eq_fetched 2 rfl (fun _ => rfl) (fun _ _ _ => rfl) (fun _ => rfl) t z
/-- At each step the fourth window holds the categories' bias. -/
theorem before_bc (t : Fin cfg2.N) (z) : (dat d V).before 3 t z = bcB V t :=
  (dat d V).before_in_eq_fetched 3 rfl (fun _ => rfl) (fun _ _ _ => rfl) (fun _ => rfl) t z
/-- At each step the fifth window holds the numbers' bias. -/
theorem before_bn (t : Fin cfg2.N) (z) : (dat d V).before 4 t z = bnB V t :=
  (dat d V).before_in_eq_fetched 4 rfl (fun _ => rfl) (fun _ _ _ => rfl) (fun _ => rfl) t z

/-! ## The body's obligation -/

/-- The body takes each step's windows to that step's block of the result. -/
theorem body : BodyObligationLoose (dat d V) (defs₀ (F := F)) 𝒱₀ none Set.univ := fun t => by
  rw [bigSep_W2, bigSep_W2]
  rw [show (dat d V).Φ t.succ = (dat d V).Φ t.castSucc from rfl, show (dat d V).owesAt none t.succ = (dat d V).owesAt none t.castSucc from rfl]
  rw [show (dat d V).before 0 t = fun _ => rowsB V t from funext (before_rows d V t),
    show (dat d V).before 1 t = fun _ => valsB V t from funext (before_vals d V t),
    show (dat d V).before 2 t = fun _ => wtsB V t from funext (before_wts d V t),
    show (dat d V).before 3 t = fun _ => bcB V t from funext (before_bc d V t),
    show (dat d V).before 4 t = fun _ => bnB V t from funext (before_bn d V t)]
  show _ ⊢ wp frame (wpE (defs₀ (F := F)) 𝒱₀ (tc d) none) Set.univ (bodyAt2 t) _
  unfold bodyAt2
  iintro ⟨HΦ, HO, ⟨%z0, H0⟩, ⟨%z1, H1⟩, ⟨%z2, H2⟩, ⟨%z3, H3⟩, ⟨%z4, H4⟩, ⟨%z5, H5⟩⟩
  iapply (proj_run d (grid2.coords t) _ _ _ _ _ _ _ _ _ _ _ _ (rowsB V t) (valsB V t) (wtsB V t) (bcB V t) (bnB V t)
    ((dat d V).before 5 t z5)) $$ [H0 H1 H2 H3 H4 H5]
  · iframe H0 H1 H2 H3 H4 H5
  iintro ⟨H0, H1, H2, H3, H4, H5⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

/-! ## The array it leaves -/

/-- Which block each window is at, by step. -/
theorem index2 : ∀ t : Fin grid2.N, win2_0.index t = ![t.val, 0] ∧ win2_1.index t = ![t.val, 0] ∧ win2_2.index t = ![0, 0]
    ∧ win2_3.index t = ![0, 0] ∧ win2_4.index t = ![0, 0] ∧ win2_5.index t = ![t.val, 0] := by
  decide +kernel

/-- The steps' blocks make up the result. -/
theorem covers : (cfg2.win 5).Covers := by decide +kernel

/-- The row a place of the block of row `r` comes from. -/
def rowOf (r : Fin 16384) (y : Fin 2048) : Fin 16384 := ⟨r.val / 2048 * 2048 + y.val, by have := r.isLt; have := y.isLt; omega⟩

/-- The projection of all rows: each block of 2048 rows by the body, the weights and biases whole. -/
def projected (G : S16384x128.Idx → Elt F .f32) (v : S16384x1.Idx → Elt F .f32) (W : S128x128.Idx → Elt F .f32)
    (bc bn : S1x128.Idx → Elt F .f32) : S16384x128.Idx → Elt F .f32 := fun x =>
  k2_pay1 (fun y : S2048x1.Idx => v (ix2 (rowOf (x 0) (y 0)) (y 1))) (fun y : S2048x128.Idx => G (ix2 (rowOf (x 0) (y 0)) (y 1))) W bc bn
    (ix2 (⟨(x 0).val % 2048, Nat.mod_lt _ (by decide)⟩ : Fin 2048) (x 1 : Fin 128))

/-- The result at a place of a step's block. -/
theorem out_apply (t : Fin grid2.N) (y : S2048x128.Idx) :
    out V t y = projected (V (Proc.devRef .tc main_v4)) (V (Proc.devRef .tc main_v8)) (V (Proc.devRef .tc main_v7))
      (V (Proc.devRef .tc main_v9)) (V (Proc.devRef .tc main_v10)) ((win2_5.blk t).view.emb y) := by
  have ⟨e0, e1, e2, e3, e4, e5⟩ := index2 t
  have hy : (y 0).val < 2048 := (y 0).isLt
  have a0 : ((win2_5.blk t).view.emb y 0).val = t.val * 2048 + (y 0).val := by
    show ((win2_5.rect t).emb y 0 : ℕ) = _
    rw [win2_5.rect_emb_val t, e5]; rfl
  have a1 : ((win2_5.blk t).view.emb y 1).val = (y 1).val := by
    show ((win2_5.rect t).emb y 1 : ℕ) = _
    rw [win2_5.rect_emb_val t, e5]; show 0 * 128 + _ = _; omega
  have hrow : ∀ z : Fin 2048, (rowOf ((win2_5.blk t).view.emb y 0) z).val = t.val * 2048 + z.val := fun z => by
    show ((win2_5.blk t).view.emb y 0).val / 2048 * 2048 + z.val = _
    rw [a0]; omega
  unfold out projected
  congr 1
  · funext z
    show V (Proc.devRef .tc main_v8) _ = V (Proc.devRef .tc main_v8) _
    congr 1
    funext a
    refine Fin.ext ?_
    show ((win2_1.rect t).emb z a : ℕ) = _
    rw [win2_1.rect_emb_val t, e1]
    match a with
    | 0 => exact (hrow (z 0)).symm
    | 1 => show 0 * 1 + (z 1).val = (z 1).val; omega
  · funext z
    show V (Proc.devRef .tc main_v4) _ = V (Proc.devRef .tc main_v4) _
    congr 1
    funext a
    refine Fin.ext ?_
    show ((win2_0.rect t).emb z a : ℕ) = _
    rw [win2_0.rect_emb_val t, e0]
    match a with
    | 0 => exact (hrow (z 0)).symm
    | 1 => show 0 * 128 + (z 1).val = (z 1).val; omega
  · funext z
    show V (Proc.devRef .tc main_v7) _ = V (Proc.devRef .tc main_v7) _
    congr 1
    funext a
    refine Fin.ext ?_
    show ((win2_2.rect t).emb z a : ℕ) = _
    rw [win2_2.rect_emb_val t, e2]
    match a with
    | 0 => show 0 * 128 + (z 0).val = (z 0).val; omega
    | 1 => show 0 * 128 + (z 1).val = (z 1).val; omega
  · funext z
    show V (Proc.devRef .tc main_v9) _ = V (Proc.devRef .tc main_v9) _
    congr 1
    funext a
    refine Fin.ext ?_
    show ((win2_3.rect t).emb z a : ℕ) = _
    rw [win2_3.rect_emb_val t, e3]
    match a with
    | 0 => show 0 * 1 + (z 0).val = (z 0).val; omega
    | 1 => show 0 * 128 + (z 1).val = (z 1).val; omega
  · funext z
    show V (Proc.devRef .tc main_v10) _ = V (Proc.devRef .tc main_v10) _
    congr 1
    funext a
    refine Fin.ext ?_
    show ((win2_4.rect t).emb z a : ℕ) = _
    rw [win2_4.rect_emb_val t, e4]
    match a with
    | 0 => show 0 * 1 + (z 0).val = (z 0).val; omega
    | 1 => show 0 * 128 + (z 1).val = (z 1).val; omega
  · refine Shape.idx_ext₂ ?_ ?_
    · show (y 0).val = ((win2_5.blk t).view.emb y 0).val % 2048
      rw [a0]; omega
    · exact a1.symm

/-- What the call leaves in its result. -/
theorem arr_out : (dat d V).arrAt 5 cfg2.N = projected (V (Proc.devRef .tc main_v4)) (V (Proc.devRef .tc main_v8)) (V (Proc.devRef .tc main_v7))
      (V (Proc.devRef .tc main_v9)) (V (Proc.devRef .tc main_v10)) :=
  (dat d V).arrAt_eq_of_covers 5 _ covers fun t _ y => out_apply V t y

end Cert.Proof.Proj

end
-- ==== Proof.Main.lean ====
/-
  @main on a TensorCore and the program's run: the unscoped buffers carried whole from one operation to the next, each
  stage's contents named, over any float values.
-/
module

public import proofs.«01_k».proof.Proof.Start
public import proofs.«01_k».proof.Proof.Repack
public import proofs.«01_k».proof.Proof.Proj

@[expose] public section

noncomputable section

namespace Cert.Proof.Main

open Cert.KernelIdeal Cert.KernelIdeal.Gen Cert.Proof.Setup Cert.Proof.Task Cert.Proof.Operands Cert.Proof.Start

open Idealize.ShloMosaic
open Idealize.ShloMosaic.ValueIdx (ix1 ix2 eq_ix1 eq_ix2)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligationLoose arrRef afterRegion afterRegion_arr afterRegion_keeps afterRegion_of_not_arr cellsGhost toksInit ucRefs)
open Cert.Proof.Region (adm tc Dats Plain wp_region owesTc)

variable {F : FTy → Type} [FloatOps F]

local notation "𝕄" => MM F

/-! ## The host operations -/

abbrev opIdx : HloOp τ sig (Elt F) := StableHlo.reshape main_arg0 main_v0 (rfl : (.i32 : EltTy) = .i32) shapeCasts_S16384_S1x16384
abbrev opCat : HloOp τ sig (Elt F) := StableHlo.unary main_arg2 main_v1 ((transpose S64x100000 [1, 0] · transposes_S100000x64_S64x100000_1_0) : (⟨S100000x64, .f32⟩ : BufTy).Contents (Elt F) → (⟨S64x100000, .f32⟩ : BufTy).Contents (Elt F))
abbrev opNum : HloOp τ sig (Elt F) := StableHlo.unary main_arg5 main_v2 ((transpose S64x100000 [1, 0] · transposes_S100000x64_S64x100000_1_0) : (⟨S100000x64, .f32⟩ : BufTy).Contents (Elt F) → (⟨S64x100000, .f32⟩ : BufTy).Contents (Elt F))
abbrev opWc : HloOp τ sig (Elt F) := StableHlo.unary main_arg3 main_v5 ((transpose S64x128 [1, 0] · transposes_S128x64_S64x128_1_0) : (⟨S128x64, .f32⟩ : BufTy).Contents (Elt F) → (⟨S64x128, .f32⟩ : BufTy).Contents (Elt F))
abbrev opWn : HloOp τ sig (Elt F) := StableHlo.unary main_arg6 main_v6 ((transpose S64x128 [1, 0] · transposes_S128x64_S64x128_1_0) : (⟨S128x64, .f32⟩ : BufTy).Contents (Elt F) → (⟨S64x128, .f32⟩ : BufTy).Contents (Elt F))
abbrev opW : HloOp τ sig (Elt F) := StableHlo.binary main_v5 main_v6 main_v7 ((fun a b => concatenate S128x128 0 [⟨S64x128, a⟩, ⟨S64x128, b⟩] concatenates_S64x128_S64x128_S128x128_d0) : (⟨S64x128, .f32⟩ : BufTy).Contents (Elt F) → (⟨S64x128, .f32⟩ : BufTy).Contents (Elt F) → (⟨S128x128, .f32⟩ : BufTy).Contents (Elt F))
abbrev opVal : HloOp τ sig (Elt F) := StableHlo.reshape main_arg1 main_v8 (rfl : (.f32 : EltTy) = .f32) shapeCasts_S16384_S16384x1
abbrev opBc : HloOp τ sig (Elt F) := StableHlo.reshape main_arg4 main_v9 (rfl : (.f32 : EltTy) = .f32) shapeCasts_S128_S1x128
abbrev opBn : HloOp τ sig (Elt F) := StableHlo.reshape main_arg7 main_v10 (rfl : (.f32 : EltTy) = .f32) shapeCasts_S128_S1x128

/-- The TensorCore's unscoped buffers at a valuation. -/
def bufs (d : Dev nD) (V : Valuation τ sig (Elt F)) : sProp 𝕄 := StableHlo.held (tc d) (ucRefs τ sig) V

/-- One host operation: the unscoped buffers go to its results. -/
theorem host_step {d : Dev nD} (op : HloOp τ sig (Elt F)) (hS : op.bufs ⊆ StableHlo.tcRefs τ sig) (V : Valuation τ sig (Elt F))
    {Q : PUnit → sProp 𝕄} (hf : op.fresh = ∅ := by first | rfl | decide) :
    iprop((iprop(boundary (tc d) ∗ bufs d (op.result V)) -∗ Q ⟨⟩) ∗ boundary (tc d) ∗ bufs d V)
      ⊢ wp frame (wpE ((K (F := F)).defs D) 𝒱 (tc d) none) Set.univ (hlo rfl op fun _ => .ret ⟨⟩) Q := by
  unfold bufs
  iintro ⟨HQ, Hb, Hh⟩
  iapply (StableHlo.wp_hlo_within 𝒱 (tc d) none Set.univ (op := op) (S := ucRefs τ sig) (Pipeline.sub_ucRefs op hS) (V := V) (hf := hf)) $$ [Hb Hh]
  · isplitl [Hb]; · iexact Hb
    iexact Hh
  iintro H
  rw [wp_ret]; imodintro
  iapply HQ
  iexact H

variable (m : (ℓ : Loc nD τ sig) → Buf (Elt F) ℓ) (ρ : Dev nD → PrngReg)

/-! ## What the buffers hold, stage by stage -/

/-- At the launch; before the repacking; after it. -/
def V0 (d : Dev nD) : Valuation τ sig (Elt F) := fun b => m (d, b)
/-- What the arrays hold before the repacking. -/
def V1 (d : Dev nD) : Valuation τ sig (Elt F) := (opNum (F := F)).result ((opCat (F := F)).result ((opIdx (F := F)).result (V0 m d)))
/-- What the arrays hold after the repacking. -/
def V2 (d : Dev nD) : Valuation τ sig (Elt F) := afterRegion (Repack.dat d (V1 m d)) (V1 m d)

/-- The table, the index list and the result's buffer as the gather finds them. -/
def fT (d : Dev nD) : S100000x128.Idx → Elt F .f32 := V2 m d (Proc.devRef .tc main_v3)
/-- The index list that the gather reads. -/
def fI (d : Dev nD) : S1x16384.Idx → Elt F .i32 := V2 m d (Proc.devRef .tc main_v0)
/-- What the gather's output array holds before it. -/
def f0 (d : Dev nD) : S16384x128.Idx → Elt F .f32 := V2 m d (Proc.devRef .tc main_v4)

/-- After the gather; before the projection; after it. -/
def V3 (d : Dev nD) : Valuation τ sig (Elt F) := Function.update (V2 m d) (Proc.devRef .tc main_v4) (gathered (fT m d) (fI m d))
/-- What the arrays hold before the projection. -/
def V4 (d : Dev nD) : Valuation τ sig (Elt F) :=
  (opBn (F := F)).result ((opBc (F := F)).result ((opVal (F := F)).result ((opW (F := F)).result ((opWn (F := F)).result ((opWc (F := F)).result (V3 m d))))))
/-- What the arrays hold at the end. -/
def V5 (d : Dev nD) : Valuation τ sig (Elt F) := afterRegion (Proj.dat d (V4 m d)) (V4 m d)

/-! ## The regions' data -/

/-- The data of the two TensorCore calls. -/
def dats : Dats F
  | 0, d => Repack.dat d (V1 m d)
  | 1, d => Proj.dat d (V4 m d)

/-- The first call owes what the TensorCore owes before the gather. -/
theorem p0_owed (c : Dev nD) (t) : (dats m 0 c).owed t = (K (F := F)).Otc c 0 := rfl
/-- What the first call has recorded: the rounds before the gather. -/
theorem p0_recorded (c : Dev nD) (t) : (dats m 0 c).recorded t = {x | (K (F := F)).lev (tc c, x.1) x.2 ≤ 8 * Region.Z1.fst 0} := rfl
/-- The first call holds its arrays whole. -/
theorem p0_share (c : Dev nD) (w) : (dats m 0 c).share w = fullShare := by
  show Dat.share (Repack.dat c (V1 m c)) w = fullShare
  unfold Dat.share; exact ite_self _
/-- The first call's grid and windows. -/
theorem p0_spec : (Pipeline.pin (pcfgs (F := F)) adm 0).spec = spec0 := rfl
/-- The first call keeps its scratch aside. -/
theorem p0_rest (c : Dev nD) (t) : (dats m 0 c).Φ t = Pipeline.scopedRest spec0 c := rfl
/-- The same, in the words of the pinned program. -/
theorem p0_inv (c : Dev nD) (t) : (dats m 0 c).Φ t = Pipeline.scopedRest (Pipeline.pin (pcfgs (F := F)) adm 0).spec c :=
  (p0_rest m c t).trans (congrArg (fun s => Pipeline.scopedRest s c) p0_spec).symm
/-- The first call is plain: it keeps nothing but its scratch. -/
theorem plain0 : Plain (dats m) 0 0 := ⟨p0_owed m, p0_recorded m, p0_share m, p0_inv m⟩

/-- The last call owes what the TensorCore owes after the gather. -/
theorem p1_owed (c : Dev nD) (t) : (dats m 1 c).owed t = (K (F := F)).Otc c 1 := rfl
/-- What the last call has recorded: the rounds up to the gather's. -/
theorem p1_recorded (c : Dev nD) (t) : (dats m 1 c).recorded t = {x | (K (F := F)).lev (tc c, x.1) x.2 ≤ 8 * Region.Z1.fst 1} := rfl
/-- The last call holds its arrays whole. -/
theorem p1_share (c : Dev nD) (w) : (dats m 1 c).share w = fullShare := by
  show Dat.share (Proj.dat c (V4 m c)) w = fullShare
  unfold Dat.share; exact ite_self _
/-- The last call's grid and windows. -/
theorem p1_spec : (Pipeline.pin (pcfgs (F := F)) adm 1).spec = spec2 := rfl
/-- The last call keeps its scratch aside. -/
theorem p1_rest (c : Dev nD) (t) : (dats m 1 c).Φ t = Pipeline.scopedRest spec2 c := rfl
/-- The same, in the words of the pinned program. -/
theorem p1_inv (c : Dev nD) (t) : (dats m 1 c).Φ t = Pipeline.scopedRest (Pipeline.pin (pcfgs (F := F)) adm 1).spec c :=
  (p1_rest m c t).trans (congrArg (fun s => Pipeline.scopedRest s c) p1_spec).symm
/-- The last call is plain: it keeps nothing but its scratch. -/
theorem plain1 : Plain (dats m) 1 1 := ⟨p1_owed m, p1_recorded m, p1_share m, p1_inv m⟩

/-- The repacking's step. -/
theorem repack_step (d : Dev nD) (Q : PUnit → sProp 𝕄) :
    iprop((iprop(boundary (tc d) ∗ bufs d (V2 m d) ∗ owesTc d 0) -∗ Q ⟨⟩)
        ∗ boundary (tc d) ∗ (bufs d (V1 m d) ∗ owesTc d 0) ∗ levAts (K (F := F)).L (K (F := F)).lev ∗ ghost (F := F) 0 d)
      ⊢ wp frame (wpE ((K (F := F)).defs D) 𝒱 (tc d) none) Set.univ
        (Prog.lift (.customCall (SparseCore.inner (Pipeline.entry 0)) ())) Q :=
  wp_region (dats := dats m) EP launch0 (plain0 m) (fun c => Repack.body c (V1 m c)) (V1 m) (fun _ _ => rfl) d Q

/-- The projection's step. -/
theorem proj_step (d : Dev nD) (Q : PUnit → sProp 𝕄) :
    iprop((iprop(boundary (tc d) ∗ bufs d (V5 m d) ∗ owesTc d 1) -∗ Q ⟨⟩)
        ∗ boundary (tc d) ∗ (bufs d (V4 m d) ∗ owesTc d 1) ∗ levAts (K (F := F)).L (K (F := F)).lev ∗ ghost (F := F) 1 d)
      ⊢ wp frame (wpE ((K (F := F)).defs D) 𝒱 (tc d) none) Set.univ
        (Prog.lift (.customCall (SparseCore.inner (Pipeline.entry 1)) ())) Q :=
  wp_region (dats := dats m) EP launch2 (plain1 m) (fun c => Proj.body c (V4 m c)) (V4 m) (fun _ _ => rfl) d Q

/-! ## The gather's operands among the buffers -/

abbrev S3 : Finset (DevRef τ sig) := {Proc.devRef .tc main_v0, Proc.devRef .tc main_v4, Proc.devRef .tc main_v3}

/-- The gather's three operands are among the arrays that outlive a call. -/
theorem S3_sub : S3 ⊆ ucRefs τ sig := by decide

/-- Holding the three operands is holding each of them. -/
theorem held_S3 (d : Dev nD) (V : Valuation τ sig (Elt F)) :
    (StableHlo.held (tc d) S3 V : sProp 𝕄)
      = iprop((idxLoc d ↦{fullShare} V (Proc.devRef .tc main_v0)) ∗ (outLoc d ↦{fullShare} V (Proc.devRef .tc main_v4))
          ∗ (tabLoc d ↦{fullShare} V (Proc.devRef .tc main_v3))) := by
  unfold StableHlo.held S3
  rw [SparseCore.bigSep_insert' (by decide), SparseCore.bigSep_insert' (by decide), bigSep_singleton]

/-- The rest of the buffers. -/
def rest (d : Dev nD) : sProp 𝕄 := StableHlo.held (tc d) (ucRefs τ sig \ S3) (V2 m d)

/-- The arrays after the repacking are the gather's operands and the others. -/
theorem bufs_V2 (d : Dev nD) : (bufs d (V2 m d) : sProp 𝕄)
    = iprop(((idxLoc d ↦{fullShare} fI m d) ∗ (outLoc d ↦{fullShare} f0 m d) ∗ (tabLoc d ↦{fullShare} fT m d)) ∗ rest m d) := by
  unfold bufs rest
  rw [StableHlo.held_sub_split (tc d) S3_sub, held_S3]
  rfl

/-- The gather changes its output array alone. -/
theorem V3_of_ne (d : Dev nD) {b : DevRef τ sig} (h : b ≠ Proc.devRef .tc main_v4) : V3 m d b = V2 m d b := Function.update_of_ne h _ _
/-- The gather leaves the gathered rows in its output array. -/
theorem V3_out (d : Dev nD) : V3 m d (Proc.devRef .tc main_v4) = gathered (fT m d) (fI m d) := Function.update_self _ _ _

/-- The gather's operands after it, with the others, are all the arrays. -/
theorem bufs_V3 (d : Dev nD) : (bufs d (V3 m d) : sProp 𝕄)
    = iprop(((idxLoc d ↦{fullShare} fI m d) ∗ (outLoc d ↦{fullShare} gathered (fT m d) (fI m d)) ∗ (tabLoc d ↦{fullShare} fT m d)) ∗ rest m d) := by
  unfold bufs rest
  rw [StableHlo.held_sub_split (tc d) S3_sub, held_S3, V3_out, V3_of_ne m d (by decide), V3_of_ne m d (by decide),
    StableHlo.held_congr (tc d) (S := ucRefs τ sig \ S3) (V := V3 m d) (V' := V2 m d) fun b hb => V3_of_ne m d fun e =>
      (Finset.mem_sdiff.mp hb).2 (by rw [e]; decide)]
  rfl

/-- What the two SparseCores are handed at the gather's start. -/
theorem st0_eq (d : Dev nD) : (bigSep Finset.univ fun c : Fin ((K (F := F)).nCore 0) => (P (fT m) (fI m) (f0 m)).st 0 d c)
    = (bigSep Finset.univ fun c : Fin 2 => coreRes (fT m) (fI m) (f0 m) d c 0 : sProp 𝕄) := rfl
/-- What the two SparseCores hand back at the gather's end. -/
theorem dn0_eq (d : Dev nD) : (bigSep Finset.univ fun c : Fin ((K (F := F)).nCore 0) => (P (fT m) (fI m) (f0 m)).dn 0 d c)
    = (bigSep Finset.univ fun c : Fin 2 => coreRes (fT m) (fI m) (f0 m) d c 4 : sProp 𝕄) := rfl

/-! ## What the TensorCore owes, apart from the rest of its handshake state -/

/-- The handshake state before call `n` but for the debts. -/
def hs (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (Region.Z1.last q)) 1)))

/-- The TensorCore's state is what it owes and its place in the handshakes. -/
theorem tcSt_eq (d : Dev nD) (n : ℕ) : ((K (F := F)).tcSt EH d n : sProp 𝕄) = iprop(owesTc d n ∗ hs (F := F) d n) := rfl

/-! ## @main -/

/-- What @main leaves: every unscoped buffer as the projection leaves it. -/
def FIN (d : Dev nD) : sProp 𝕄 := bufs d (V5 m d)

/-- The host code runs, through its three calls, from the arguments to the final contents. -/
theorem hmain (κ : GSem nD τ sig → ℕ) (d : Dev nD) :
    iprop((K (F := F)).ctx EH (P (fT m) (fI m) (f0 m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G FIN
  rw [tcSt_eq, show unscopedBufs d (fun b => m ((SparseCore.T d).loc b)) = (bufs d (V0 m d) : sProp 𝕄) from Pipeline.unscopedBufs_held d (V0 m d)]
  simp only [main, wp_bind, wp_pure]
  iintro ⟨#Hctx, ⟨HO, Hhs⟩, ⟨Hb, Hh, Hts, -⟩, Hg0, Hg1⟩
  ihave #HL := (SparseCore.Cfg.ctx_levAts (K := K (F := F)) κ) $$ Hctx
  -- the index list and the transposed tables
  iapply (host_step opIdx (StableHlo.reshape_bufs_sub ..) (V0 m d))
  isplitr [Hb Hh]; swap
  · isplitl [Hb]; · iexact Hb
    iexact Hh
  iintro ⟨Hb, Hh⟩
  iapply (host_step opCat (StableHlo.unary_bufs_sub ..) ((opIdx (F := F)).result (V0 m d)))
  isplitr [Hb Hh]; swap
  · isplitl [Hb]; · iexact Hb
    iexact Hh
  iintro ⟨Hb, Hh⟩
  iapply (host_step opNum (StableHlo.unary_bufs_sub ..) ((opCat (F := F)).result ((opIdx (F := F)).result (V0 m d))))
  isplitr [Hb Hh]; swap
  · isplitl [Hb]; · iexact Hb
    iexact Hh
  iintro ⟨Hb, Hh⟩
  -- the repacking
  iapply (repack_step m d)
  isplitr [Hb Hh HO Hg0]; swap
  · isplitl [Hb]; · iexact Hb
    isplitl [Hh HO]
    · isplitl [Hh]; · iexact Hh
      iexact HO
    isplitr; · iexact HL
    iexact Hg0
  iintro ⟨Hb, Hh, HO⟩
  -- the gather
  ihave Hh := (Entails.of_eq (bufs_V2 m d)) $$ Hh
  icases Hh with ⟨Hops, Hrest⟩
  ihave Hops := (hand_out d (fT m) (fI m) (f0 m)) $$ Hops
  icases Hops with ⟨Hst, Hkeep⟩
  iapply ((K (F := F)).wp_run (D (F := F)) 𝒱 (EH := EH) (P := P (fT m) (fI m) (f0 m)) κ d 0) $$ [HO Hhs Hst Hb Hrest Hkeep Hts Hg1]
  isplitr; · iexact Hctx
  isplitl [HO Hhs]
  · iapply (Entails.of_eq (tcSt_eq (F := F) d 0).symm)
    isplitl [HO]; · iexact HO
    iexact Hhs
  isplitl [Hst]
  · iapply (Entails.of_eq (st0_eq m d).symm); iexact Hst
  iintro ⟨Htc, Hdn⟩
  ihave Hdn := (Entails.of_eq (dn0_eq m d)) $$ Hdn
  ihave Htc := (Entails.of_eq (show (K (F := F)).tcSt EH d ((0 : Fin 1).val + 1) = iprop(owesTc d 1 ∗ hs (F := F) d 1) from tcSt_eq (F := F) d 1)) $$ Htc
  icases Htc with ⟨HO, Hhs⟩
  ihave Hops := (take_back d (fT m) (fI m) (f0 m)) $$ [Hdn Hkeep]
  · isplitl [Hdn]; · iexact Hdn
    iexact Hkeep
  ihave Hh := (Entails.of_eq (bufs_V3 m d).symm) $$ [Hops Hrest]
  · isplitl [Hops]; · iexact Hops
    iexact Hrest
  -- the weights, the values, the biases
  iapply (host_step opWc (StableHlo.unary_bufs_sub ..) (V3 m d))
  isplitr [Hb Hh]; swap
  · isplitl [Hb]; · iexact Hb
    iexact Hh
  iintro ⟨Hb, Hh⟩
  iapply (host_step opWn (StableHlo.unary_bufs_sub ..) _)
  isplitr [Hb Hh]; swap
  · isplitl [Hb]; · iexact Hb
    iexact Hh
  iintro ⟨Hb, Hh⟩
  iapply (host_step opW (StableHlo.binary_bufs_sub ..) _)
  isplitr [Hb Hh]; swap
  · isplitl [Hb]; · iexact Hb
    iexact Hh
  iintro ⟨Hb, Hh⟩
  iapply (host_step opVal (StableHlo.reshape_bufs_sub ..) _)
  isplitr [Hb Hh]; swap
  · isplitl [Hb]; · iexact Hb
    iexact Hh
  iintro ⟨Hb, Hh⟩
  iapply (host_step opBc (StableHlo.reshape_bufs_sub ..) _)
  isplitr [Hb Hh]; swap
  · isplitl [Hb]; · iexact Hb
    iexact Hh
  iintro ⟨Hb, Hh⟩
  iapply (host_step opBn (StableHlo.reshape_bufs_sub ..) _)
  isplitr [Hb Hh]; swap
  · isplitl [Hb]; · iexact Hb
    iexact Hh
  iintro ⟨Hb, Hh⟩
  -- the projection
  iapply (proj_step m d)
  isplitr [Hb Hh HO Hg1]; swap
  · isplitl [Hb]; · iexact Hb
    isplitl [Hh HO]
    · isplitl [Hh]; · iexact Hh
      iexact HO
    isplitr; · iexact HL
    iexact Hg1
  iintro ⟨Hb, Hh, HO⟩
  imodintro
  isplitl [HO Hhs]
  · iapply (Entails.of_eq (tcSt_eq (F := F) d 1).symm)
    isplitl [HO]; · iexact HO
    iexact Hhs
  isplitl [Hh]; · iexact Hh
  isplitl [Hb]; · iexact Hb
  iexact Hts

/-! ## What is read off the final memory -/

/-- Every unscoped buffer of the TensorCore at the final contents. -/
def fq (d : Dev nD) (s' : Phys nD τ sig (Elt F)) : Prop :=
  ∀ b : Ref sig .tc, (Proc.devRef .tc b : DevRef τ sig) ∈ ucRefs τ sig → s'.mem.mem ((SparseCore.T d).loc b) = V5 m d (Proc.devRef .tc b)

/-- The final contents are those of the machine's memory. -/
theorem hfin (d : Dev nD) (s' : Phys nD τ sig (Elt F)) : iprop(FIN m d ∗ SI s') ⊢ (⌜fq m d s'⌝ : sProp 𝕄) := by
  have h : ∀ b : Ref sig .tc, (Proc.devRef .tc b : DevRef τ sig) ∈ ucRefs τ sig →
      (iprop(FIN m d ∗ SI s') ⊢ (⌜s'.mem.mem ((SparseCore.T d).loc b) = V5 m d (Proc.devRef .tc b)⌝ : sProp 𝕄)) := by
    intro b hb
    unfold FIN bufs
    refine BIBase.Entails.trans (sep_mono_left (bigSep_elim (Φ := fun r : DevRef τ sig => (((tc d).1, r) : Loc nD τ sig) ↦{fullShare} V5 m d r) hb)) ?_
    iintro ⟨Hx, HSI⟩
    ihave H := (SI_pointsTo_agree (st := s') (ℓ := (SparseCore.T d).loc b) (I := Finset.univ) (q := fullShare) (f := V5 m d (Proc.devRef .tc b))) $$ [HSI Hx]
    · isplitl [HSI]; · iexact HSI
      iexact Hx
    icases H with %hx
    ipureintro; exact funext fun i => hx i (Finset.mem_univ i)
  exact fun w hw b hb => h b hb w hw

end Cert.Proof.Main

end
-- ==== Proof.Run.lean ====
/-
  The program's run, over any float values: the arguments end unchanged and the result is the projection of the rows
  gathered from the repacked tables, in closed form over the launch memory.
-/
module

public import proofs.«01_k».proof.Proof.Main

@[expose] public section

noncomputable section

namespace Cert.Proof.Run

open Cert.KernelIdeal Cert.KernelIdeal.Gen Cert.Proof.Setup Cert.Proof.Task Cert.Proof.Start Cert.Proof.Main

open Idealize.ShloMosaic
open Idealize.ShloMosaic.ValueIdx (ix1 ix2 eq_ix1 eq_ix2)
open Idealize.SL Idealize.SL.BI Idealize.SL.BI.BIBase Idealize.SL.BI.Laws
open Idealize.SL.Sem
open Idealize.ShloMosaic.Pipeline (afterRegion_arr afterRegion_keeps ucRefs)

variable {F : FTy → Type} [FloatOps F]
variable (m : (ℓ : Loc nD τ sig) → Buf (Elt F) ℓ) (ρ : Dev nD → PrngReg) (d : Dev nD)

/-- An argument as the launch memory holds it. -/
abbrev arg (b : Ref sig .tc) : Buf (Elt F) ((SparseCore.T d : Thread nD τ).loc b) := m ((SparseCore.T d).loc b)

/-! ## The buffers' contents at each stage -/

/-- What the first host operations do not write. -/
theorem V1_keeps {b : Ref sig .tc} (h : b ≠ main_v0 ∧ b ≠ main_v1 ∧ b ≠ main_v2) : V1 m d (Proc.devRef .tc b) = arg m d b := by
  unfold V1
  rw [StableHlo.unary_result_ne _ _ _ _ _ _ h.2.2, StableHlo.unary_result_ne _ _ _ _ _ _ h.2.1, StableHlo.reshape_result_ne _ _ _ _ _ _ _ h.1]
  rfl

/-- Before the repacking the index list is the tokens in one row. -/
theorem V1_idx : V1 m d (Proc.devRef .tc main_v0) = shapeCast S1x16384 (arg m d main_arg0) shapeCasts_S16384_S1x16384 := by
  unfold V1
  rw [StableHlo.unary_result_ne _ _ _ _ _ _ (by decide), StableHlo.unary_result_ne _ _ _ _ _ _ (by decide), StableHlo.reshape_result]
  rfl
/-- Before the repacking the first operand is the categories' table transposed. -/
theorem V1_cat : V1 m d (Proc.devRef .tc main_v1) = transpose S64x100000 [1, 0] (arg m d main_arg2) transposes_S100000x64_S64x100000_1_0 := by
  unfold V1
  rw [StableHlo.unary_result_ne _ _ _ _ _ _ (by decide), StableHlo.unary_result, StableHlo.reshape_result_ne _ _ _ _ _ _ _ (by decide)]
  rfl
/-- Before the repacking the second operand is the numbers' table transposed. -/
theorem V1_num : V1 m d (Proc.devRef .tc main_v2) = transpose S64x100000 [1, 0] (arg m d main_arg5) transposes_S100000x64_S64x100000_1_0 := by
  unfold V1
  rw [StableHlo.unary_result, StableHlo.unary_result_ne _ _ _ _ _ _ (by decide), StableHlo.reshape_result_ne _ _ _ _ _ _ _ (by decide)]
  rfl

/-- The repacking writes the table alone. -/
theorem V2_keeps {b : Ref sig .tc} (h : b ≠ main_v3) : V2 m d (Proc.devRef .tc b) = V1 m d (Proc.devRef .tc b) := by
  unfold V2
  refine afterRegion_keeps (Repack.dat d (V1 m d)) (V1 m d) launch0.win.arr_inj (fun _ => rfl) b ?_
  intro w hw
  match w with
  | 0 => rfl
  | 1 => rfl
  | 2 => exact absurd hw.symm h

/-- The table that the gather reads is the repacked one. -/
theorem fT_eq : fT m d = Repack.table (transpose S64x100000 [1, 0] (arg m d main_arg2) transposes_S100000x64_S64x100000_1_0)
    (transpose S64x100000 [1, 0] (arg m d main_arg5) transposes_S100000x64_S64x100000_1_0) := by
  rw [← V1_cat, ← V1_num]
  unfold fT V2
  exact (afterRegion_arr (Repack.dat d (V1 m d)) (V1 m d) launch0.win.arr_inj 2).trans (Repack.arr_out d (V1 m d))

/-- The index list that the gather reads is the tokens in one row. -/
theorem fI_eq : fI m d = shapeCast S1x16384 (arg m d main_arg0) shapeCasts_S16384_S1x16384 := by
  unfold fI
  rw [V2_keeps m d (by decide), V1_idx]

/-- The gather changes its output array alone. -/
theorem V3_keeps {b : Ref sig .tc} (h : b ≠ main_v4) : V3 m d (Proc.devRef .tc b) = V2 m d (Proc.devRef .tc b) :=
  V3_of_ne m d fun e => h (Proc.devRef_injective _ e)

/-- A buffer nothing up to the gather writes. -/
theorem V3_arg {b : Ref sig .tc} (h : b ≠ main_v0 ∧ b ≠ main_v1 ∧ b ≠ main_v2) (h3 : b ≠ main_v3) (h4 : b ≠ main_v4) :
    V3 m d (Proc.devRef .tc b) = arg m d b := by
  rw [V3_keeps m d h4, V2_keeps m d h3, V1_keeps m d h]

/-- What the later host operations do not write. -/
theorem V4_keeps {b : Ref sig .tc} (h : b ≠ main_v5 ∧ b ≠ main_v6 ∧ b ≠ main_v7 ∧ b ≠ main_v8 ∧ b ≠ main_v9 ∧ b ≠ main_v10) :
    V4 m d (Proc.devRef .tc b) = V3 m d (Proc.devRef .tc b) := by
  obtain ⟨h5, h6, h7, h8, h9, h10⟩ := h
  unfold V4
  rw [StableHlo.reshape_result_ne _ _ _ _ _ _ _ h10, StableHlo.reshape_result_ne _ _ _ _ _ _ _ h9, StableHlo.reshape_result_ne _ _ _ _ _ _ _ h8,
    StableHlo.binary_result_ne _ _ _ _ _ _ _ _ h7, StableHlo.unary_result_ne _ _ _ _ _ _ h6, StableHlo.unary_result_ne _ _ _ _ _ _ h5]

/-- The stacked weights. -/
abbrev weights (X Y : S128x64.Idx → Elt F .f32) : S128x128.Idx → Elt F .f32 :=
  concatenate S128x128 0 [⟨S64x128, transpose S64x128 [1, 0] X transposes_S128x64_S64x128_1_0⟩,
    ⟨S64x128, transpose S64x128 [1, 0] Y transposes_S128x64_S64x128_1_0⟩] concatenates_S64x128_S64x128_S128x128_d0

/-- Before the projection the weights are stacked. -/
theorem V4_weights : V4 m d (Proc.devRef .tc main_v7) = weights (arg m d main_arg3) (arg m d main_arg6) := by
  unfold V4
  rw [StableHlo.reshape_result_ne _ _ _ _ _ _ _ (by decide), StableHlo.reshape_result_ne _ _ _ _ _ _ _ (by decide),
    StableHlo.reshape_result_ne _ _ _ _ _ _ _ (by decide), StableHlo.binary_result, StableHlo.unary_result,
    StableHlo.unary_result_ne _ _ _ _ _ _ (show main_v5 ≠ main_v6 by decide), StableHlo.unary_result,
    StableHlo.unary_result_ne _ _ _ _ _ _ (show main_arg6 ≠ main_v5 by decide),
    V3_arg m d (b := main_arg3) (by decide) (by decide) (by decide), V3_arg m d (b := main_arg6) (by decide) (by decide) (by decide)]
/-- Before the projection the values are a column. -/
theorem V4_vals : V4 m d (Proc.devRef .tc main_v8) = shapeCast S16384x1 (arg m d main_arg1) shapeCasts_S16384_S16384x1 := by
  unfold V4
  rw [StableHlo.reshape_result_ne _ _ _ _ _ _ _ (by decide), StableHlo.reshape_result_ne _ _ _ _ _ _ _ (by decide),
    StableHlo.reshape_result, StableHlo.binary_result_ne _ _ _ _ _ _ _ _ (by decide), StableHlo.unary_result_ne _ _ _ _ _ _ (by decide),
    StableHlo.unary_result_ne _ _ _ _ _ _ (by decide), V3_arg m d (b := main_arg1) (by decide) (by decide) (by decide)]
  rfl
/-- Before the projection the categories' bias is a row. -/
theorem V4_bc : V4 m d (Proc.devRef .tc main_v9) = shapeCast S1x128 (arg m d main_arg4) shapeCasts_S128_S1x128 := by
  unfold V4
  rw [StableHlo.reshape_result_ne _ _ _ _ _ _ _ (by decide), StableHlo.reshape_result, StableHlo.reshape_result_ne _ _ _ _ _ _ _ (by decide),
    StableHlo.binary_result_ne _ _ _ _ _ _ _ _ (by decide), StableHlo.unary_result_ne _ _ _ _ _ _ (by decide),
    StableHlo.unary_result_ne _ _ _ _ _ _ (by decide), V3_arg m d (b := main_arg4) (by decide) (by decide) (by decide)]
  rfl
/-- Before the projection the numbers' bias is a row. -/
theorem V4_bn : V4 m d (Proc.devRef .tc main_v10) = shapeCast S1x128 (arg m d main_arg7) shapeCasts_S128_S1x128 := by
  unfold V4
  rw [StableHlo.reshape_result, StableHlo.reshape_result_ne _ _ _ _ _ _ _ (by decide), StableHlo.reshape_result_ne _ _ _ _ _ _ _ (by decide),
    StableHlo.binary_result_ne _ _ _ _ _ _ _ _ (by decide), StableHlo.unary_result_ne _ _ _ _ _ _ (by decide),
    StableHlo.unary_result_ne _ _ _ _ _ _ (by decide), V3_arg m d (b := main_arg7) (by decide) (by decide) (by decide)]
  rfl
/-- Before the projection the rows are the gathered ones. -/
theorem V4_rows : V4 m d (Proc.devRef .tc main_v4) = gathered (fT m d) (fI m d) := by
  rw [V4_keeps m d (by decide), V3_out]

/-- The projection writes its result alone. -/
theorem V5_keeps {b : Ref sig .tc} (h : b ≠ main_v11) : V5 m d (Proc.devRef .tc b) = V4 m d (Proc.devRef .tc b) := by
  unfold V5
  refine afterRegion_keeps (Proj.dat d (V4 m d)) (V4 m d) launch2.win.arr_inj (fun _ => rfl) b ?_
  intro w hw
  match w with
  | 0 => rfl
  | 1 => rfl
  | 2 => rfl
  | 3 => rfl
  | 4 => rfl
  | 5 => exact absurd hw.symm h

/-- The result, over the arguments. -/
def result (tok : S16384.Idx → Elt F .i32) (val : S16384.Idx → Elt F .f32) (cat : S100000x64.Idx → Elt F .f32) (Wc : S128x64.Idx → Elt F .f32)
    (bc : S128.Idx → Elt F .f32) (num : S100000x64.Idx → Elt F .f32) (Wn : S128x64.Idx → Elt F .f32) (bn : S128.Idx → Elt F .f32) :
    S16384x128.Idx → Elt F .f32 :=
  Proj.projected
    (gathered (Repack.table (transpose S64x100000 [1, 0] cat transposes_S100000x64_S64x100000_1_0) (transpose S64x100000 [1, 0] num transposes_S100000x64_S64x100000_1_0))
      (shapeCast S1x16384 tok shapeCasts_S16384_S1x16384))
    (shapeCast S16384x1 val shapeCasts_S16384_S16384x1) (weights Wc Wn) (shapeCast S1x128 bc shapeCasts_S128_S1x128) (shapeCast S1x128 bn shapeCasts_S128_S1x128)

/-- At the end the result array holds `result` of the arguments. -/
theorem V5_result : V5 m d (Proc.devRef .tc main_v11) = result (arg m d main_arg0) (arg m d main_arg1) (arg m d main_arg2) (arg m d main_arg3)
    (arg m d main_arg4) (arg m d main_arg5) (arg m d main_arg6) (arg m d main_arg7) := by
  unfold V5 result
  refine ((afterRegion_arr (Proj.dat d (V4 m d)) (V4 m d) launch2.win.arr_inj 5).trans (Proj.arr_out d (V4 m d))).trans ?_
  rw [V4_rows, V4_vals, V4_weights, V4_bc, V4_bn, fT_eq, fI_eq]

/-- An argument at the end. -/
theorem V5_arg {b : Ref sig .tc} (h : b ≠ main_v0 ∧ b ≠ main_v1 ∧ b ≠ main_v2) (h3 : b ≠ main_v3) (h4 : b ≠ main_v4)
    (h' : b ≠ main_v5 ∧ b ≠ main_v6 ∧ b ≠ main_v7 ∧ b ≠ main_v8 ∧ b ≠ main_v9 ∧ b ≠ main_v10) (h11 : b ≠ main_v11) :
    V5 m d (Proc.devRef .tc b) = arg m d b := by
  rw [V5_keeps m d h11, V4_keeps m d h', V3_arg m d h h3 h4]

/-! ## The run -/

/-- The final memory: the result computed, the arguments kept, every semaphore at zero. -/
def Post (r : PUnit × MemSt nD τ sig (Elt F)) : Prop :=
  (∀ c : Dev nD, r.2.mem ((SparseCore.T c).loc main_v11) = result (arg m c main_arg0) (arg m c main_arg1) (arg m c main_arg2) (arg m c main_arg3)
      (arg m c main_arg4) (arg m c main_arg5) (arg m c main_arg6) (arg m c main_arg7)
    ∧ r.2.mem ((SparseCore.T c).loc main_arg0) = arg m c main_arg0
    ∧ r.2.mem ((SparseCore.T c).loc main_arg1) = arg m c main_arg1
    ∧ r.2.mem ((SparseCore.T c).loc main_arg2) = arg m c main_arg2
    ∧ r.2.mem ((SparseCore.T c).loc main_arg3) = arg m c main_arg3
    ∧ r.2.mem ((SparseCore.T c).loc main_arg4) = arg m c main_arg4
    ∧ r.2.mem ((SparseCore.T c).loc main_arg5) = arg m c main_arg5
    ∧ r.2.mem ((SparseCore.T c).loc main_arg6) = arg m c main_arg6
    ∧ r.2.mem ((SparseCore.T c).loc main_arg7) = arg m c main_arg7)
  ∧ r.2.sem = fun _ => 0

/-- The final contents give the run's postcondition. -/
theorem post_of_fq (s' : Phys nD τ sig (Elt F)) (h : ∀ c, fq m c s') (hz : s'.mem.sem = fun _ => 0) : Post m (⟨⟩, s'.mem) := by
  refine ⟨fun c => ⟨(h c main_v11 (by decide)).trans (V5_result m c), ?_, ?_, ?_, ?_, ?_, ?_, ?_, ?_⟩, hz⟩
  all_goals exact (h c _ (by decide)).trans (V5_arg m c (by decide) (by decide) (by decide) (by decide) (by decide))

/-- The index list names rows of the tables when the tokens do. -/
theorem idx_lt (htok : ∀ c x, (arg m c main_arg0 x).toNat < 100000) (c : Dev nD) (x : S1x16384.Idx) : (fI m c x).toNat < 100000 := by
  rw [fI_eq]; exact htok c _

/-- The run: with every token naming a row, the kernel ends, its result is `result` of its arguments, the arguments are unchanged and every counter is at zero. -/
theorem run_main [∀ e, Nonempty (Elt F e)] (htok : ∀ c x, (arg m c main_arg0 x).toNat < 100000) :
    θ_run (Cert.KernelIdeal.defs (F := F)) (Cert.KernelIdeal.threads (F := F)) ⟨m, fun _ => 0, ρ⟩ (Post m) :=
  SparseCore.Cfg.θ_run_sc_quiescent (K := K (F := F)) (D := D (F := F)) (𝒱 := 𝒱) (EH := EH) (P := P (fT m) (fI m) (f0 m)) (A := ∅) facts v₀
    (fun q hq => match q with | 0 => nomatch hq)
    (fun q _ => match q with | 0 => tileObl (fT m) (fI m) (f0 m) facts (idx_lt m htok))
    (fun q _ => match q with | 0 => SparseCore.Cfg.VecSplit.of_plain (vecSplit (fT m) (fI m) (f0 m)))
    m ρ main (fun d => G (F := F) d) (FIN m) (u₀ (F := F)) (sep_elim_left.trans (hu₀ (fT m) (fI m) (f0 m))) (hmain m ρ) (fq m) (hfin m) (Post m) (post_of_fq m)

end Cert.Proof.Run

end
-- ==== Proof.RefValue.lean ====
/-
  The reference's result read at an element: half the projected row of the first table plus its bias, added to half the
  projected scaled row of the second plus its bias.
-/
module

public import proofs.«01_k».proof.Proof.Gen.ReferenceIdeal.Run
public import Idealize.ShloMosaic.Lib.Pointwise
public import Idealize.ShloMosaic.Lib.Routing.Ops
public import Idealize.ShloMosaic.Lib.StableHlo.Predicate
public import Idealize.ShloMosaic.PureOps.Ideal.Laws

@[expose] public section

noncomputable section

namespace Cert.Proof.Ref

open Idealize.ShloMosaic hiding ix1 ix2
open Idealize.ShloMosaic.ValueIdx (ix1 ix2)
open Cert.ReferenceIdeal Cert.ReferenceIdeal.Gen

/-- The row numbers a lookup reads, a negative one counted from the table's end. -/
def places (tok : IVec S16384 32) : IVec S16384x1 32 :=
  broadcastInDim S16384x1 ![0] bcast_S16384_S16384x1_0 (select (cmpi .slt tok (broadcastInDim S16384 ![] bcast_S_S16384 (constantI S_ 32 0#32)))
    (addi tok (broadcastInDim S16384 ![] bcast_S_S16384 (constantI S_ 32 100000#32))) tok)

/-- A lookup: the rows named, the filler where a number names none. -/
def taken (tok : IVec S16384 32) (tbl : FVec Ideal S100000x64 .f32) : FVec Ideal S16384x64 .f32 :=
  select (broadcastInDim S16384x64 ![0] bcast_S16384_S16384x64_0
      (Host.reduce IntOp.andi (andi (cmpi .sge (places tok) (broadcastInDim S16384x1 ![] bcast_S_S16384x1 (constantI S_ 32 0#32)))
        (cmpi .sle (places tok) (broadcastInDim S16384x1 ![0, 1] bcast_S1x1_S16384x1_0_1 (broadcastInDim S1x1 ![1] bcast_S1_S1x1_1 (constantI S1 32 99999#32)))))
        (constantI S_ 1 1#1) reducesTo_S16384x1_S16384_d1 h_S_))
    (Host.gather gather_S100000x64_S16384x1_S16384x64_1_0_n_n_0_1_164 tbl (places tok))
    (broadcastInDim S16384x64 ![] bcast_S_S16384x64 (constant S_ .f32 0x7FC00000#32))

/-- The rows looked up, a padding token's zeroed. -/
def rows (tok : IVec S16384 32) (tbl : FVec Ideal S100000x64 .f32) : FVec Ideal S16384x64 .f32 :=
  select (broadcastInDim S16384x64 ![0, 1] bcast_S16384x1_S16384x64_0_1
      (broadcastInDim S16384x1 ![0] bcast_S16384_S16384x1_0 (cmpi .eq tok (broadcastInDim S16384 ![] bcast_S_S16384 (constantI S_ 32 0#32)))))
    (broadcastInDim S16384x64 ![] bcast_S_S16384x64 (id (constant S_ .f32 0x00000000#32))) (taken tok tbl)

/-- One branch of the reference: its rows projected, its bias added, halved. -/
def branch (x : FVec Ideal S16384x64 .f32) (W : FVec Ideal S128x64 .f32) (b : FVec Ideal S128 .f32) : FVec Ideal S16384x128 .f32 :=
  mulf (broadcastInDim S16384x128 ![] bcast_S_S16384x128 (constant S_ .f32 0x3F000000#32))
    (addf (Host.dotGeneral dot_S16384x64_S64x128_S16384x128_1_0_0_1_n_n none x (transpose S64x128 [1, 0] W transposes_S128x64_S64x128_1_0))
      (broadcastInDim S16384x128 ![0, 1] bcast_S1x128_S16384x128_0_1 (broadcastInDim S1x128 ![1] bcast_S128_S1x128_1 b)))

/-- The numeric branch's tokens, a missing value's the padding token. -/
def numTok (tok : IVec S16384 32) (val : FVec Ideal S16384 .f32) : IVec S16384 32 :=
  select (cmpf .une val val) (broadcastInDim S16384 ![] bcast_S_S16384 (id (constantI S_ 32 0#32))) tok
/-- The values, a missing one zeroed. -/
def numVal (val : FVec Ideal S16384 .f32) : FVec Ideal S16384 .f32 :=
  select (cmpf .une val val) (broadcastInDim S16384 ![] bcast_S_S16384 (id (constant S_ .f32 0x00000000#32))) val

/-- The numeric branch's rows, scaled by the values. -/
def scaled (tok : IVec S16384 32) (val : FVec Ideal S16384 .f32) (num : FVec Ideal S100000x64 .f32) : FVec Ideal S16384x64 .f32 :=
  mulf (rows (numTok tok val) num) (broadcastInDim S16384x64 ![0, 1] bcast_S16384x1_S16384x64_0_1 (broadcastInDim S16384x1 ![0] bcast_S16384_S16384x1_0 (numVal val)))

/-- The reference's result. -/
def refOut (tok : IVec S16384 32) (val : FVec Ideal S16384 .f32) (cat : FVec Ideal S100000x64 .f32) (Wc : FVec Ideal S128x64 .f32) (bc : FVec Ideal S128 .f32)
    (num : FVec Ideal S100000x64 .f32) (Wn : FVec Ideal S128x64 .f32) (bn : FVec Ideal S128 .f32) : FVec Ideal S16384x128 .f32 :=
  addf (branch (rows tok cat) Wc bc) (branch (scaled tok val num) Wn bn)

/-- What the reference's run leaves is `refOut` of the arguments. -/
theorem res_eq (m : (ℓ : Loc nD τ sig) → Buf (Elt Ideal) ℓ) (d : Dev nD) :
    Value.res_out0 m d = refOut (m (d.tc.loc main_arg0)) (m (d.tc.loc main_arg1)) (m (d.tc.loc main_arg2)) (m (d.tc.loc main_arg3)) (m (d.tc.loc main_arg4))
      (m (d.tc.loc main_arg5)) (m (d.tc.loc main_arg6)) (m (d.tc.loc main_arg7)) := by
  unfold Value.res_out0 Value.res_main_v30
  rfl

/-- No ideal value is missing. -/
theorem numTok_eq (tok : IVec S16384 32) (val : FVec Ideal S16384 .f32) : numTok tok val = tok := by
  funext i
  pointwise [numTok]
  exact if_neg fun h => h rfl
/-- No extended real is a NaN, so the masked values are the values. -/
theorem numVal_eq (val : FVec Ideal S16384 .f32) : numVal val = val := by
  funext i
  pointwise [numVal]
  exact if_neg fun h => h rfl

/-- A projection with its bias, at a row and a lane. -/
theorem branch_apply (x : FVec Ideal S16384x64 .f32) (W : FVec Ideal S128x64 .f32) (b : FVec Ideal S128 .f32) (r : Fin 16384) (c : Fin 128) :
    branch x W b (ix2 r c) = Ideal.ofBits .f32 0x3F000000#32 * ((∑ k : Fin 64, x (ix2 r k) * W (ix2 c k)) + b (ix1 c)) := by
  pointwise [branch]
  rfl

/-- A word below the number of rows is neither negative nor past the end. -/
theorem not_neg {w : BitVec 32} (h : w.toNat < 100000) : IntOp.cmpi .slt w 0#32 = 0#1 := by
  have e : ¬ IntOp.cmpi .slt w 0#32 = 1#1 := by
    rw [StableHlo.Predicate.slt_iff_toNat (by omega) (by decide)]; simp
  exact (BitVec.eq_zero_or_eq_one _).resolve_right e
/-- A token in range is not negative. -/
theorem ge_zero {w : BitVec 32} (h : w.toNat < 100000) : IntOp.cmpi .sge w 0#32 = 1#1 :=
  (StableHlo.Predicate.sge_iff_toNat (by omega) (by decide)).2 (by simp)
/-- A token in range is at most the last row. -/
theorem le_last {w : BitVec 32} (h : w.toNat < 100000) : IntOp.cmpi .sle w 99999#32 = 1#1 :=
  (StableHlo.Predicate.sle_iff_toNat (by omega) (by decide)).2 (by simp only [BitVec.toNat_ofNat]; omega)

/-- A bit folded from ones stays one. -/
theorem fold_ones {ι : Type} [DecidableEq ι] (s : Finset ι) : s.fold IntOp.andi (1#1) (fun _ => 1#1) = 1#1 := by
  induction s using Finset.induction_on with
  | empty => rfl
  | insert a s ha ih => rw [Finset.fold_insert ha, ih]; decide

/-- A token in range is looked up at itself. -/
theorem places_apply (tok : IVec S16384 32) (r : Fin 16384) (k : Fin 1) (h : (tok (ix1 r)).toNat < 100000) : places tok (ix2 r k) = tok (ix1 r) := by
  have e : places tok (ix2 r k) = Scalar.select (IntOp.cmpi .slt (tok (ix1 r)) 0#32) (IntOp.addi (tok (ix1 r)) 100000#32) (tok (ix1 r)) := by
    pointwise [places]
    rfl
  rw [e, not_neg h]; rfl

/-- The row looked up for a token in range is the table's row of that number. -/
theorem taken_apply (tok : IVec S16384 32) (tbl : FVec Ideal S100000x64 .f32) (r : Fin 16384) (k : Fin 64) (h : (tok (ix1 r)).toNat < 100000) :
    taken tok tbl (ix2 r k) = tbl (ix2 (⟨(tok (ix1 r)).toNat, h⟩ : Fin 100000) k) := by
  have e : taken tok tbl (ix2 r k) = Scalar.select (Finset.univ.fold IntOp.andi (1#1)
        (fun x : Fin 1 => IntOp.andi (IntOp.cmpi .sge (places tok (ix2 r x)) 0#32) (IntOp.cmpi .sle (places tok (ix2 r x)) 99999#32)))
      (Host.gather gather_S100000x64_S16384x1_S16384x64_1_0_n_n_0_1_164 tbl (places tok) (ix2 r k)) (Ideal.ofBits .f32 0x7FC00000#32) := by
    pointwise [taken]
    rfl
  rw [e, show (fun x : Fin 1 => IntOp.andi (IntOp.cmpi .sge (places tok (ix2 r x)) 0#32) (IntOp.cmpi .sle (places tok (ix2 r x)) 99999#32)) = fun _ => 1#1 from
    funext fun x => by rw [places_apply tok r x h, ge_zero h, le_last h]; decide, fold_ones]
  refine (show Scalar.select (1#1) _ _ = _ from rfl).trans ?_
  refine Routing.gather_row gather_S100000x64_S16384x1_S16384x64_1_0_n_n_0_1_164 rfl rfl rfl rfl rfl tbl (places tok) r k ⟨(tok (ix1 r)).toNat, h⟩ ?_ (by decide)
  rw [places_apply tok r 0 h]
  simp

/-- A row looked up, given that the padding row is zero. -/
theorem rows_apply (tok : IVec S16384 32) (tbl : FVec Ideal S100000x64 .f32) (r : Fin 16384) (k : Fin 64) (h : (tok (ix1 r)).toNat < 100000)
    (h0 : tbl (ix2 (0 : Fin 100000) k) = (0 : EReal)) :
    rows tok tbl (ix2 r k) = tbl (ix2 (⟨(tok (ix1 r)).toNat, h⟩ : Fin 100000) k) := by
  have e : rows tok tbl (ix2 r k) = Scalar.select (IntOp.cmpi .eq (tok (ix1 r)) 0#32) (Ideal.ofBits .f32 0x00000000#32) (taken tok tbl (ix2 r k)) := by
    pointwise [rows]
    show Scalar.select _ (Ideal.ofBits .f32 0x00000000#32) _ = _
    rw [Ideal.ofBits_zero_f32]
    rfl
  rw [e, taken_apply tok tbl r k h]
  by_cases hz : tok (ix1 r) = 0#32
  · rw [StableHlo.Predicate.cmpi_eq_iff.2 hz]
    refine (show Scalar.select (1#1) _ _ = _ from rfl).trans (Ideal.ofBits_zero_f32.trans ?_)
    rw [← h0]
    exact congrArg (fun q => tbl (ix2 q k)) (Fin.ext (by simp [hz]))
  · rw [(BitVec.eq_zero_or_eq_one _).resolve_right fun e => hz (StableHlo.Predicate.cmpi_eq_iff.1 e)]
    rfl

/-- The reference at an element. -/
theorem refOut_apply (tok : IVec S16384 32) (val : FVec Ideal S16384 .f32) (cat : FVec Ideal S100000x64 .f32) (Wc : FVec Ideal S128x64 .f32) (bc : FVec Ideal S128 .f32)
    (num : FVec Ideal S100000x64 .f32) (Wn : FVec Ideal S128x64 .f32) (bn : FVec Ideal S128 .f32) (r : Fin 16384) (c : Fin 128)
    (h : (tok (ix1 r)).toNat < 100000) (hc : ∀ k : Fin 64, cat (ix2 (0 : Fin 100000) k) = (0 : EReal)) (hn : ∀ k : Fin 64, num (ix2 (0 : Fin 100000) k) = (0 : EReal)) :
    refOut tok val cat Wc bc num Wn bn (ix2 r c)
      = Ideal.ofBits .f32 0x3F000000#32 * ((∑ k : Fin 64, cat (ix2 (⟨(tok (ix1 r)).toNat, h⟩ : Fin 100000) k) * Wc (ix2 c k)) + bc (ix1 c))
        + Ideal.ofBits .f32 0x3F000000#32 * ((∑ k : Fin 64, num (ix2 (⟨(tok (ix1 r)).toNat, h⟩ : Fin 100000) k) * val (ix1 r) * Wn (ix2 c k)) + bn (ix1 c)) := by
  have hs : ∀ k : Fin 64, scaled tok val num (ix2 r k) = num (ix2 (⟨(tok (ix1 r)).toNat, h⟩ : Fin 100000) k) * val (ix1 r) := fun k => by
    have e : scaled tok val num (ix2 r k) = rows (numTok tok val) num (ix2 r k) * numVal val (ix1 r) := by
      pointwise [scaled]
      rfl
    rw [e, numTok_eq, numVal_eq, rows_apply tok num r k h (hn k)]
  refine (show refOut tok val cat Wc bc num Wn bn (ix2 r c) = branch (rows tok cat) Wc bc (ix2 r c) + branch (scaled tok val num) Wn bn (ix2 r c) from rfl).trans ?_
  rw [branch_apply, branch_apply]
  simp only [hs, fun k => rows_apply tok cat r k h (hc k)]

end Cert.Proof.Ref

end
-- ==== Proof.Value.lean ====
/-
  The kernel's result at the ideal instance, read at an element, and that it is the reference's: the sum over the packed
  row splits into the two tables' sums, and the half distributes.
-/
module

public import proofs.«01_k».proof.Proof.Run
public import proofs.«01_k».proof.Proof.RefValue

@[expose] public section

noncomputable section

namespace Cert.Proof.Value

open Idealize.ShloMosaic hiding ix1 ix2
open Idealize.ShloMosaic.ValueIdx (ix1 ix2)
open Cert.KernelIdeal Cert.KernelIdeal.Gen Cert.Proof.Setup Cert.Proof.Run

/-- The column test of the projection's body: past the first table's columns. -/
theorem past (k : Fin 128) : IntOp.cmpi .sge (BitVec.ofNat 32 k.val) 64#32 = if 64 ≤ k.val then 1#1 else 0#1 := by
  revert k; decide

/-- The projection's body at an element: the row times its scale, projected, the biases added, halved. -/
theorem pay_apply (v : Vec Ideal S2048x1 .f32) (g : Vec Ideal S2048x128 .f32) (W : Vec Ideal S128x128 .f32) (bc bn : Vec Ideal S1x128 .f32) (r : Fin 2048) (c : Fin 128) :
    k2_pay1 (F := Ideal) v g W bc bn (ix2 r c) = Ideal.ofBits .f32 0x3F000000#32
      * ((∑ k : Fin 128, g (ix2 r k) * (if 64 ≤ k.val then v (ix2 r (0 : Fin 1)) else 1) * W (ix2 k c)) + bc (ix2 (0 : Fin 1) c) + bn (ix2 (0 : Fin 1) c)) := by
  have hs : ∀ k : Fin 128, Scalar.select (IntOp.cmpi .sge (BitVec.ofNat 32 k.val) 64#32) (if v (ix2 r (0 : Fin 1)) ≠ v (ix2 r (0 : Fin 1)) then (0 : EReal) else v (ix2 r (0 : Fin 1))) 1
      = if 64 ≤ k.val then v (ix2 r (0 : Fin 1)) else 1 := fun k => by
    rw [past, show (if v (ix2 r (0 : Fin 1)) ≠ v (ix2 r (0 : Fin 1)) then (0 : EReal) else v (ix2 r (0 : Fin 1))) = v (ix2 r (0 : Fin 1)) from if_neg (fun h => h rfl)]
    by_cases hk : 64 ≤ k.val
    · rw [if_pos hk, if_pos hk]; rfl
    · rw [if_neg hk, if_neg hk]; rfl
  have e : k2_pay1 (F := Ideal) v g W bc bn (ix2 r c) = Ideal.ofBits .f32 0x3F000000#32
      * ((∑ k : Fin 128, g (ix2 r k) * Scalar.select (IntOp.cmpi .sge (BitVec.ofNat 32 k.val) 64#32)
          (if v (ix2 r (0 : Fin 1)) ≠ v (ix2 r (0 : Fin 1)) then (0 : EReal) else v (ix2 r (0 : Fin 1))) 1 * W (ix2 k c)) + bc (ix2 (0 : Fin 1) c) + bn (ix2 (0 : Fin 1) c)) := by
    pointwise [k2_pay1]
    rfl
  rw [e]
  simp only [hs]

/-- The half is a finite nonnegative number. -/
theorem half_nonneg : (0 : EReal) ≤ Ideal.ofBits .f32 0x3F000000#32 := by
  simp [Ideal.ofBits, Ideal.ieee]
  positivity
/-- The half is finite. -/
theorem half_ne_top : (Ideal.ofBits .f32 0x3F000000#32 : EReal) ≠ ⊤ := by
  simp only [Ideal.ofBits, Ideal.ieee]
  exact EReal.coe_ne_top _

section

variable (tok : S16384.Idx → BitVec 32) (val : S16384.Idx → EReal) (cat : S100000x64.Idx → EReal) (Wc : S128x64.Idx → EReal)
    (bc : S128.Idx → EReal) (num : S100000x64.Idx → EReal) (Wn : S128x64.Idx → EReal) (bn : S128.Idx → EReal)

/-- The packed row at a column of either table. -/
theorem table_left (q : Fin 100000) (k : Fin 64) :
    Repack.table (F := Ideal) (transpose S64x100000 [1, 0] cat transposes_S100000x64_S64x100000_1_0) (transpose S64x100000 [1, 0] num transposes_S100000x64_S64x100000_1_0)
      (ix2 q (Fin.castAdd 64 k : Fin 128)) = cat (ix2 q k) := by
  unfold Repack.table
  rw [dif_pos (show ((ix2 q (Fin.castAdd 64 k : Fin 128) : S100000x128.Idx) 1).val < 64 from k.isLt)]
  pointwise
  rfl
/-- The repacked table's right half is the numbers' table. -/
theorem table_right (q : Fin 100000) (k : Fin 64) :
    Repack.table (F := Ideal) (transpose S64x100000 [1, 0] cat transposes_S100000x64_S64x100000_1_0) (transpose S64x100000 [1, 0] num transposes_S100000x64_S64x100000_1_0)
      (ix2 q (Fin.natAdd 64 k : Fin 128)) = num (ix2 q k) := by
  unfold Repack.table
  rw [dif_neg (show ¬ ((ix2 q (Fin.natAdd 64 k : Fin 128) : S100000x128.Idx) 1).val < 64 from by show ¬ 64 + k.val < 64; omega)]
  pointwise
  exact congrArg (fun k => num (ix2 q k)) (Fin.ext (show 64 + k.val - 64 = k.val by omega))

/-- The stacked weights at a row of either half. -/
theorem weights_left (k : Fin 64) (c : Fin 128) : weights (F := Ideal) Wc Wn (ix2 (Fin.castAdd 64 k : Fin 128) c) = Wc (ix2 c k) := by
  unfold weights
  pointwise
  rw [dif_pos (show ((ix2 (Fin.castAdd 64 k : Fin 128) c : S128x128.Idx) 0).val < 64 from k.isLt)]
  rfl
/-- The stacked weights' lower half is the numbers' weights, transposed. -/
theorem weights_right (k : Fin 64) (c : Fin 128) : weights (F := Ideal) Wc Wn (ix2 (Fin.natAdd 64 k : Fin 128) c) = Wn (ix2 c k) := by
  unfold weights
  pointwise
  rw [dif_neg (show ¬ ((ix2 (Fin.natAdd 64 k : Fin 128) c : S128x128.Idx) 0).val < 64 from by show ¬ 64 + k.val < 64; omega)]
  exact congrArg (fun k => Wn (ix2 c k)) (Fin.ext (show 64 + k.val - 64 = k.val by omega))

/-- The reshaped operands at an element. -/
theorem idx_apply (r : Fin 16384) : shapeCast S1x16384 tok shapeCasts_S16384_S1x16384 (ix2 (0 : Fin 1) r) = tok (ix1 r) := by
  pointwise
  rfl
/-- The column of values, at a row. -/
theorem val_apply (r : Fin 16384) : shapeCast S16384x1 val shapeCasts_S16384_S16384x1 (ix2 r (0 : Fin 1)) = val (ix1 r) := by
  pointwise
  rfl
/-- A bias as a row, at a lane. -/
theorem bias_apply (b : S128.Idx → EReal) (c : Fin 128) : shapeCast S1x128 b shapeCasts_S128_S1x128 (ix2 (0 : Fin 1) c) = b (ix1 c) := by
  pointwise
  rfl

/-- A row's own place in its block. -/
theorem rowOf_self (r : Fin 16384) : Proj.rowOf r ⟨r.val % 2048, Nat.mod_lt _ (by decide)⟩ = r :=
  Fin.ext (show r.val / 2048 * 2048 + r.val % 2048 = r.val by omega)

/-- The kernel's result at an element. -/
theorem result_apply (r : Fin 16384) (c : Fin 128) (h : (tok (ix1 r)).toNat < 100000) :
    result (F := Ideal) tok val cat Wc bc num Wn bn (ix2 r c) = Ideal.ofBits .f32 0x3F000000#32
      * ((∑ k : Fin 64, cat (ix2 (⟨(tok (ix1 r)).toNat, h⟩ : Fin 100000) k) * Wc (ix2 c k))
          + (∑ k : Fin 64, num (ix2 (⟨(tok (ix1 r)).toNat, h⟩ : Fin 100000) k) * val (ix1 r) * Wn (ix2 c k)) + bc (ix1 c) + bn (ix1 c)) := by
  have hrow : rowAt (tok (ix1 r)) = (⟨(tok (ix1 r)).toNat, h⟩ : Fin 100000) := Fin.ext (Nat.mod_eq_of_lt h)
  have hG : ∀ k : Fin 128, gathered (F := Ideal) (Repack.table (transpose S64x100000 [1, 0] cat transposes_S100000x64_S64x100000_1_0)
        (transpose S64x100000 [1, 0] num transposes_S100000x64_S64x100000_1_0)) (shapeCast S1x16384 tok shapeCasts_S16384_S1x16384) (ix2 r k)
      = Repack.table (F := Ideal) (transpose S64x100000 [1, 0] cat transposes_S100000x64_S64x100000_1_0)
        (transpose S64x100000 [1, 0] num transposes_S100000x64_S64x100000_1_0) (ix2 (⟨(tok (ix1 r)).toNat, h⟩ : Fin 100000) k) := fun k => by
    refine (show gathered (F := Ideal) _ _ (ix2 r k) = Repack.table (F := Ideal) _ _ (ix2 (rowAt (shapeCast S1x16384 tok shapeCasts_S16384_S1x16384 (ix2 (0 : Fin 1) r))) k) from rfl).trans ?_
    rw [idx_apply, hrow]
  unfold result Proj.projected
  refine (pay_apply _ _ _ _ _ _ _).trans ?_
  refine congrArg (Ideal.ofBits .f32 0x3F000000#32 * ·) ?_
  have hr : Proj.rowOf ((ix2 r c : S16384x128.Idx) 0) ⟨((ix2 r c : S16384x128.Idx) 0).val % 2048, Nat.mod_lt _ (by decide)⟩ = r := rowOf_self r
  have hsum : (∑ k : Fin 128, gathered (F := Ideal) (Repack.table (transpose S64x100000 [1, 0] cat transposes_S100000x64_S64x100000_1_0)
        (transpose S64x100000 [1, 0] num transposes_S100000x64_S64x100000_1_0)) (shapeCast S1x16384 tok shapeCasts_S16384_S1x16384) (ix2 r k)
        * (if 64 ≤ k.val then shapeCast S16384x1 val shapeCasts_S16384_S16384x1 (ix2 r (0 : Fin 1)) else 1) * weights (F := Ideal) Wc Wn (ix2 k c))
      = (∑ k : Fin 64, cat (ix2 (⟨(tok (ix1 r)).toNat, h⟩ : Fin 100000) k) * Wc (ix2 c k))
          + (∑ k : Fin 64, num (ix2 (⟨(tok (ix1 r)).toNat, h⟩ : Fin 100000) k) * val (ix1 r) * Wn (ix2 c k)) := by
    refine (Fin.sum_univ_add (a := 64) (b := 64) _).trans (congrArg₂ (· + ·) (Finset.sum_congr rfl fun k _ => ?_) (Finset.sum_congr rfl fun k _ => ?_))
    · rw [hG, table_left, weights_left, if_neg (show ¬ 64 ≤ (Fin.castAdd 64 k).val from by show ¬ 64 ≤ k.val; omega), mul_one]
    · rw [hG, table_right, weights_right, if_pos (show 64 ≤ (Fin.natAdd 64 k).val from by show 64 ≤ 64 + k.val; omega), val_apply]
  rw [← hsum, ← bias_apply bc, ← bias_apply bn]
  simp only [hr]

/-- The kernel's result is the reference's, where the tokens name rows and the padding rows are zero. -/
theorem result_eq_ref (htok : ∀ x, (tok x).toNat < 100000) (hc : ∀ k : Fin 64, cat (ix2 (0 : Fin 100000) k) = 0) (hn : ∀ k : Fin 64, num (ix2 (0 : Fin 100000) k) = 0) :
    result (F := Ideal) tok val cat Wc bc num Wn bn = Ref.refOut tok val cat Wc bc num Wn bn := by
  funext x
  rw [ValueIdx.eq_ix2 x]
  refine (result_apply tok val cat Wc bc num Wn bn (x 0) (x 1) (htok _)).trans
    (Eq.trans ?_ (Ref.refOut_apply tok val cat Wc bc num Wn bn (x 0) (x 1) (htok _) hc hn).symm)
  rw [← EReal.left_distrib_of_nonneg_of_ne_top half_nonneg half_ne_top]
  refine congrArg (Ideal.ofBits .f32 0x3F000000#32 * ·) ?_
  abel

end

end Cert.Proof.Value

end
-- ==== Proof.Pre.lean ====
/-
  What the preconditions say of the arguments: the tokens name rows of the tables, and (the second) the tables' first rows,
  the padding token's, are zero.
-/
module

public import proofs.«01_k».proof.Proof.Gen.Pre_in_range
public import proofs.«01_k».proof.Proof.Gen.Pre_padded
public import Idealize.ShloMosaic.Lib.Pointwise
public import Idealize.ShloMosaic.Lib.StableHlo.Predicate
public import Idealize.ShloMosaic.PureOps.Ideal.Laws

@[expose] public section

noncomputable section

namespace Cert.Proof.Pre

open Idealize.ShloMosaic hiding ix1 ix2
open Idealize.ShloMosaic.ValueIdx (ix1 ix2)

variable {F : FTy → Type} [FloatOps F]

/-- A conjunction of two truth words holds when both do. -/
theorem and_eq_one {c d : BitVec 1} : IntOp.andi c d = 1#1 ↔ c = 1#1 ∧ d = 1#1 := by revert c d; decide

/-- A conjunction over a set is set where every bit of it is. -/
theorem fold_and {ι : Type} [DecidableEq ι] (s : Finset ι) (f : ι → BitVec 1) (h : s.fold IntOp.andi (1#1) f = 1#1) : ∀ i ∈ s, f i = 1#1 := by
  induction s using Finset.induction_on with
  | empty => exact fun i hi => absurd hi (Finset.notMem_empty i)
  | insert a s ha ih =>
    rw [Finset.fold_insert ha, and_eq_one] at h
    intro i hi
    rcases Finset.mem_insert.1 hi with rfl | hi
    · exact h.1
    · exact ih h.2 i hi

/-- A reduction to one bit is set where every bit of its source is. -/
theorem all_of_reduce {s t u : Shape} {axes : List (Fin s.rank)} (x : IVec s 1) (h : s.ReducesTo axes t) (hu : 0 < u.numel) (ht : ∀ i j : t.Idx, i = j) (j : t.Idx)
    (e : Host.reduce IntOp.andi x (constantI u 1 1#1) h hu j = 1#1) (i : s.Idx) : x i = 1#1 := by
  classical
  rw [Host.reduce_eq_fold] at e
  exact fold_and _ _ e i (Finset.mem_filter.2 ⟨Finset.mem_univ _, ht _ _⟩)

/-- The range test of a word, as printed. -/
theorem lt_of_tests {w : BitVec 32} (h : IntOp.andi (IntOp.cmpi .sge w 0#32) (IntOp.cmpi .slt w 100000#32) = 1#1) : w.toNat < 100000 := by
  rw [and_eq_one] at h
  obtain ⟨h1, h2⟩ := h
  have h1' : (0#32).sle w = true := (StableHlo.Predicate.ofBool_eq_one_iff _).1 h1
  have h2' : w.slt 100000#32 = true := (StableHlo.Predicate.ofBool_eq_one_iff _).1 h2
  simp only [BitVec.sle_eq_decide, BitVec.slt_eq_decide, decide_eq_true_eq, BitVec.toInt_eq_toNat_cond, BitVec.toNat_ofNat, Nat.reducePow, Nat.reduceMod] at h1' h2'
  omega

section InRange

open Cert.Pre_in_range Cert.Pre_in_range.Gen

/-- The first precondition: the tokens name rows. -/
theorem tok_lt (a0 : IVec S16384 32) (a1 : FVec F S16384 .f32) (a2 : FVec F S100000x64 .f32) (a3 : FVec F S128x64 .f32) (a4 : FVec F S128 .f32)
    (a5 : FVec F S100000x64 .f32) (a6 : FVec F S128x64 .f32) (a7 : FVec F S128 .f32) (h : Cert.Pre_in_range.fn (F := F) a0 a1 a2 a3 a4 a5 a6 a7 = fun _ => 1#1) (x : S16384.Idx) :
    (a0 x).toNat < 100000 := by
  have e := congrFun h (fun a => nomatch a)
  simp only [Cert.Pre_in_range.fn] at e
  exact lt_of_tests (all_of_reduce _ reducesTo_S16384_S_d0 h_S_ (fun i j => funext fun a => nomatch a) _ e x)

end InRange

section Padded

open Cert.Pre_padded Cert.Pre_padded.Gen

variable (a0 : IVec S16384 32) (a1 : FVec Ideal S16384 .f32) (a2 : FVec Ideal S100000x64 .f32) (a3 : FVec Ideal S128x64 .f32) (a4 : FVec Ideal S128 .f32)
    (a5 : FVec Ideal S100000x64 .f32) (a6 : FVec Ideal S128x64 .f32) (a7 : FVec Ideal S128 .f32)

/-- A table's first row, as the precondition reads it, is zero where its test says so. -/
theorem row_zero (t : FVec Ideal S100000x64 .f32)
    (e : Host.reduce IntOp.andi (cmpf .oeq (shapeCast S64 (extractStridedSlice S1x64 ![0, 0] t slices_S100000x64_S1x64_0_0) shapeCasts_S1x64_S64)
      (broadcastInDim S64 ![] bcast_S_S64 (constant S_ .f32 0x00000000#32))) (constantI S_ 1 1#1) reducesTo_S64_S_d0 h_S_ (fun a => nomatch a) = 1#1) (k : Fin 64) :
    t (ix2 (0 : Fin 100000) k) = (0 : EReal) := by
  have h := all_of_reduce _ reducesTo_S64_S_d0 h_S_ (fun i j => funext fun a => nomatch a) _ e (ix1 k)
  have h' : cmpf .oeq (shapeCast S64 (extractStridedSlice S1x64 ![0, 0] t slices_S100000x64_S1x64_0_0) shapeCasts_S1x64_S64)
      (broadcastInDim S64 ![] bcast_S_S64 (constant S_ .f32 0x00000000#32)) (ix1 k) = Ideal.cmp .oeq (t (ix2 (0 : Fin 100000) k)) 0 := by
    pointwise
    rfl
  rw [h'] at h
  exact of_decide_eq_true ((StableHlo.Predicate.ofBool_eq_one_iff _).1 h)

/-- The second precondition: the tokens name rows, and both tables' first rows are zero. -/
theorem of_padded (h : Cert.Pre_padded.fn (F := Ideal) a0 a1 a2 a3 a4 a5 a6 a7 = fun _ => 1#1) :
    (∀ x : S16384.Idx, (a0 x).toNat < 100000) ∧ (∀ k : Fin 64, a2 (ix2 (0 : Fin 100000) k) = (0 : EReal)) ∧ ∀ k : Fin 64, a5 (ix2 (0 : Fin 100000) k) = (0 : EReal) := by
  have e := congrFun h (fun a => nomatch a)
  obtain ⟨e12, e3⟩ := and_eq_one.1 e
  obtain ⟨e1, e2⟩ := and_eq_one.1 e12
  exact ⟨fun x => lt_of_tests (all_of_reduce _ reducesTo_S16384_S_d0 h_S_ (fun i j => funext fun a => nomatch a) _ e1 x), row_zero a2 e2, row_zero a5 e3⟩

end Padded

end Cert.Proof.Pre

end
-- ==== Proof.Claims.lean ====
/-
  The claims: the kernel's frames at both instances and its value at the ideal one, from the one run; the reference's
  frame and value, from its own.
-/
module

public import proofs.«01_k».proof.Proof.Same
public import proofs.«01_k».proof.Defs
public import proofs.«01_k».proof.Proof.Gen.Kernel
public import proofs.«01_k».proof.Proof.Value
public import proofs.«01_k».proof.Proof.Pre
public import Idealize.ShloMosaic.Init

@[expose] public section

noncomputable section

namespace Cert.Proof.Claims

open Idealize.ShloMosaic hiding ix1 ix2
open Idealize.SL.Sem
open Cert.Proof.Run (run_main)

/-- The kernel's frame, bit-exact. -/
theorem frame_kernel : Cert.quiescent_Kernel := fun m ρ hpre =>
  Same.defs_eq ▸ (θ_run Cert.KernelIdeal.defs _ _).mono (fun _ h => ⟨fun c => (h.1 c).2, h.2⟩)
    (run_main (F := Bits) m ρ fun c x => Pre.tok_lt _ _ _ _ _ _ _ _ (hpre c) x)

/-- The kernel's frame at the ideal instance. -/
theorem frame_ideal : Cert.quiescent_KernelIdeal := fun m ρ hpre =>
  (θ_run Cert.KernelIdeal.defs _ _).mono (fun _ h => ⟨fun c => (h.1 c).2, h.2⟩)
    (run_main (F := Ideal) m ρ fun c x => Pre.tok_lt _ _ _ _ _ _ _ _ (hpre c) x)

/-- The same under the value claim's precondition. -/
theorem frame_ideal_padded : Cert.quiescent_KernelIdeal_pre_padded := fun m ρ hpre =>
  (θ_run Cert.KernelIdeal.defs _ _).mono (fun _ h => ⟨fun c => (h.1 c).2, h.2⟩)
    (run_main (F := Ideal) m ρ fun c x => (Pre.of_padded _ _ _ _ _ _ _ _ (hpre c)).1 x)

/-- The reference's frame; it declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's frame, under the precondition of the value claim. -/
theorem frame_ref_padded : Cert.quiescent_ReferenceIdeal_pre_padded := fun m ρ _ => frame_ref m ρ trivial

/-- The kernel computes the reference's value. -/
theorem algebraic : Cert.algebraic_KernelIdeal_ReferenceIdeal_pre_padded := by
  intro m ρ m' ρ' hpre hagree
  have hp := fun c => Pre.of_padded _ _ _ _ _ _ _ _ (hpre c)
  refine ⟨fun c => Run.result (F := Ideal) (Run.arg m c Cert.KernelIdeal.main_arg0) (Run.arg m c Cert.KernelIdeal.main_arg1) (Run.arg m c Cert.KernelIdeal.main_arg2)
      (Run.arg m c Cert.KernelIdeal.main_arg3) (Run.arg m c Cert.KernelIdeal.main_arg4) (Run.arg m c Cert.KernelIdeal.main_arg5) (Run.arg m c Cert.KernelIdeal.main_arg6)
      (Run.arg m c Cert.KernelIdeal.main_arg7),
    (θ_run Cert.KernelIdeal.defs _ _).mono (fun _ h c => h.1 c) (run_main (F := Ideal) m ρ fun c x => (hp c).1 x), ?_⟩
  refine (θ_run Cert.ReferenceIdeal.defs _ _).mono (fun r h c => ⟨(h c).1.trans ?_, (h c).2⟩) (Cert.ReferenceIdeal.Value.run (F := Ideal) m' ρ')
  refine (Ref.res_eq m' c).trans ?_
  obtain ⟨e0, e1, e2, e3, e4, e5, e6, e7⟩ := hagree c
  rw [e0, e1, e2, e3, e4, e5, e6, e7]
  exact (Value.result_eq_ref _ _ _ _ _ _ _ _ (hp c).1 (hp c).2.1 (hp c).2.2).symm

end Cert.Proof.Claims

end
-- ==== Proof.lean ====
/-
  The proof of `Cert.Claim`: the frames, `preserves` and `algebraic`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Pre_in_range
public import proofs.«01_k».proof.Proof.Gen.Pre_padded
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_in_range.Gen.facts, Cert.Pre_padded.Gen.facts,
    Claims.frame_kernel, Claims.frame_ideal, Claims.frame_ideal_padded, Claims.frame_ref, Claims.frame_ref_padded, trivial, Claims.algebraic⟩

end Cert.Proof

end
